-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S512x256 : Shape := ⟨2, ![512, 256]⟩
abbrev S4 : Shape := ⟨1, ![4]⟩
abbrev S_ : Shape := ⟨0, ![]⟩
abbrev S1 : Shape := ⟨1, ![1]⟩
abbrev S64x256 : Shape := ⟨2, ![64, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S512x256, .f32⟩
  | .local _ .vmem, ⟨0, _⟩ => ⟨S512x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v10 : BitVec 32 := Scalar.muli v2 c256_i32
  let c0_i32 : BitVec 32 := 0#32
  ![v10.toNat, 0]
def k0_dev1 (d0 : Dev nD) : Nat :=
  let c0_i32_22 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_21 : BitVec 32 := 4#32
  let v29 : BitVec 32 := Scalar.muli v9 c4_i32_21
  let v30 : BitVec 32 := Scalar.addi c0_i32_22 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v31 : BitVec 32 := Scalar.muli v5 c2_i32_23
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.muli v8 c1_i32_24
  let v34 : BitVec 32 := Scalar.addi v32 v33
  v34.toNat
def k0_dev2 (d0 : Dev nD) : Nat :=
  let c0_i32_37 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_36 : BitVec 32 := 4#32
  let v44 : BitVec 32 := Scalar.muli v9 c4_i32_36
  let v45 : BitVec 32 := Scalar.addi c0_i32_37 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v46 : BitVec 32 := Scalar.muli v5 c2_i32_38
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v48 : BitVec 32 := Scalar.muli v8 c1_i32_39
  let v49 : BitVec 32 := Scalar.addi v47 v48
  v49.toNat
def k0_dev3 (d0 : Dev nD) : Nat :=
  let c0_i32_55 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_54 : BitVec 32 := 4#32
  let v65 : BitVec 32 := Scalar.muli v9 c4_i32_54
  let v66 : BitVec 32 := Scalar.addi c0_i32_55 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v67 : BitVec 32 := Scalar.muli v5 c2_i32_56
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v69 : BitVec 32 := Scalar.muli v8 c1_i32_57
  let v70 : BitVec 32 := Scalar.addi v68 v69
  v70.toNat
def k0_dev4 (d0 : Dev nD) : Nat :=
  let c0_i32_73 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_72 : BitVec 32 := 4#32
  let v86 : BitVec 32 := Scalar.muli v9 c4_i32_72
  let v87 : BitVec 32 := Scalar.addi c0_i32_73 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v88 : BitVec 32 := Scalar.muli v5 c2_i32_74
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v90 : BitVec 32 := Scalar.muli v8 c1_i32_75
  let v91 : BitVec 32 := Scalar.addi v89 v90
  v91.toNat
def k0_dev5 (d0 : Dev nD) : Nat :=
  let c0_i32_91 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_90 : BitVec 32 := 4#32
  let v107 : BitVec 32 := Scalar.muli v9 c4_i32_90
  let v108 : BitVec 32 := Scalar.addi c0_i32_91 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v109 : BitVec 32 := Scalar.muli v5 c2_i32_92
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v111 : BitVec 32 := Scalar.muli v8 c1_i32_93
  let v112 : BitVec 32 := Scalar.addi v110 v111
  v112.toNat
def k0_off2 (d0 : Dev nD) (c0_i32_110 : BitVec 32) : Fin 2 → Nat :=
  let c1_i32_108 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v129 : BitVec 32 := Scalar.subi c1_i32_108 v2
  let c256_i32_109 : BitVec 32 := 256#32
  let v130 : BitVec 32 := Scalar.muli v129 c256_i32_109
  let v131 : BitVec 32 := Scalar.addi v130 c0_i32_110
  let v134 : Index := Scalar.indexCast v131
  let c0_113 : Index := 0#32
  ![v134.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x256 : Shape := ⟨2, ![512, 256]⟩

abbrev nBuf : Space → Nat
  | .hbm => 1
  | .vmem => 0
  | .smem => 0
  | _ => 0

abbrev bufTy : (tb : Table) → Fin (tcTables nBuf tb) → BufTy
  | .hbm, ⟨0, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.IdealProtocol.lean ====
/-
# The exchange: who hands what to whom

Eight devices form a 2 × 2 × 2 mesh (device `c = 4x + 2y + z`). Device `c` swaps its 256 × 256 block with the device
`peer c` on the other side of the first axis, in four chunks of 64 rows, each chunk rounded to bf16 for the trip, and
writes both blocks, stacked in mesh order, to its 512 × 256 result.

This file fixes the vocabulary of the proof: the chunks of every buffer, what each buffer holds, the fourteen semaphore
cells of a device with the one payment each receives, what a device owes at the start, and the levels by which the
waits are ordered.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Tactic

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds beside the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The partner -/

/-- The device across the first mesh axis. -/
def peer (c : Dev nD) : Dev nD := ⟨(c.val + 4) % 8, Nat.mod_lt _ (by decide)⟩

theorem peer_peer (c : Dev nD) : peer (peer c) = c := by revert c; decide

/-- The partner's row of the first axis is the other one. -/
theorem peer_row (c : Dev nD) : (peer c).val / 4 = 1 - c.val / 4 := by revert c; decide
theorem row_lt (c : Dev nD) : c.val / 4 < 2 := by revert c; decide

theorem peer_form (c : Dev nD) : (2 * ((c.val / 2) % 2) + (c.val % 2) + 4) - 4 * (c.val / 4) = (peer c).val := by revert c; decide

/-- The kernel's five computations of a device number all name the partner. -/
theorem dev1_eq (c : Dev nD) : (⟨k0_dev1 c, k0_dev1_lt c⟩ : Dev nD) = peer c := Fin.ext ((k0_dev1_eq c).trans (peer_form c))
theorem dev2_eq (c : Dev nD) : (⟨k0_dev2 c, k0_dev2_lt c⟩ : Dev nD) = peer c := Fin.ext ((k0_dev2_eq c).trans (peer_form c))
theorem dev3_eq (c : Dev nD) : (⟨k0_dev3 c, k0_dev3_lt c⟩ : Dev nD) = peer c := Fin.ext ((k0_dev3_eq c).trans (peer_form c))
theorem dev4_eq (c : Dev nD) : (⟨k0_dev4 c, k0_dev4_lt c⟩ : Dev nD) = peer c := Fin.ext ((k0_dev4_eq c).trans (peer_form c))
theorem dev5_eq (c : Dev nD) : (⟨k0_dev5 c, k0_dev5_lt c⟩ : Dev nD) = peer c := Fin.ext ((k0_dev5_eq c).trans (peer_form c))

/-- The swap as a permutation of the devices. -/
def swap : Dev nD ≃ Dev nD := ⟨peer, peer, peer_peer, peer_peer⟩

/-! ## The buffers and their chunks -/

abbrev aM : Memref sig .tc .hbm S256x256 .f32 := Memref.whole main_arg0
abbrev oM : Memref sig .tc .vmem S512x256 .f32 := Memref.whole cc0_stg0_0
abbrev xM : Memref sig .tc .vmem S256x256 .f32 := Memref.whole cc0_scratch0
abbrev sM : Memref sig .tc .vmem S256x256 .bf16 := Memref.whole cc0_scratch1
abbrev rM : Memref sig .tc .vmem S256x256 .bf16 := Memref.whole cc0_scratch2

theorem chunk_inb (k : Fin 4) : ∀ a, (![64 * k.val, 0] : Fin 2 → ℕ) a + S64x256.size a ≤ S256x256.size a := by revert k; decide

/-- Chunk `k` of a block: rows `64 k` to `64 k + 63`. -/
abbrev rect (k : Fin 4) : Rect S256x256 := Rect.unit (s := S256x256) ![64 * k.val, 0] S64x256.size (chunk_inb k)
/-- The rows of the result that the device's own block fills. -/
abbrev rectOwn (c : Dev nD) : Rect S512x256 := Rect.unit (s := S512x256) (k0_off1 c) S256x256.size (k0_off1_inb c)
/-- The rows of the result that chunk `k` of the partner's block fills. -/
abbrev rectIn (c : Dev nD) (k : Fin 4) : Rect S512x256 :=
  Rect.unit (s := S512x256) (k0_off2 c (BitVec.ofNat 32 (64 * k.val))) S64x256.size (k0_off2_inb c k)

abbrev aC (k : Fin 4) : Memref sig .tc .hbm S64x256 .f32 := aM.slice (rect k) (fun _ => rfl)
abbrev xC (k : Fin 4) : Memref sig .tc .vmem S64x256 .f32 := xM.slice (rect k) (fun _ => rfl)
abbrev sC (k : Fin 4) : Memref sig .tc .vmem S64x256 .bf16 := sM.slice (rect k) (fun _ => rfl)
abbrev rC (k : Fin 4) : Memref sig .tc .vmem S64x256 .bf16 := rM.slice (rect k) (fun _ => rfl)
abbrev oOwn (c : Dev nD) : Memref sig .tc .vmem S256x256 .f32 := oM.slice (rectOwn c) (fun _ => rfl)

/-! ## What the buffers hold -/

/-- The device's own block. -/
def X (c : Dev nD) : FVec F S256x256 .f32 := m ((c : Thread nD τ).loc main_arg0)
/-- The device's block rounded for the trip. -/
def T (c : Dev nD) : FVec F S256x256 .bf16 := truncf .bf16 (X m c) bitsLt_bf16_f32

/-- The place inside its block of a row of the result. -/
def low (i : S512x256.Idx) : S256x256.Idx := fun a => ⟨(i a).val % 256, by fin_cases a <;> exact Nat.mod_lt _ (by decide)⟩

/-- The result on device `c`: its own block as it stands, the partner's as the trip left it. -/
def O (c : Dev nD) : FVec F S512x256 .f32 := fun i =>
  if (i 0).val / 256 = c.val / 4 then X m c (low i) else extf .f32 (T m (peer c)) bitsLt_bf16_f32 (low i)

abbrev half : PosShare TreeShare := fullShare.left
abbrev half' : PosShare TreeShare := fullShare.right

/-- Chunk `k` of the argument, at the half share the staging transfers read. -/
def aPts (c : Dev nD) (k : Fin 4) : sProp 𝕄 := (aC k).view.loc (c : Thread nD τ) ↦[(aC k).view.set]{half'} X m c
/-- The whole argument, at the half share the transfer into the result reads. -/
def aOwn (c : Dev nD) : sProp 𝕄 := aM.view.loc (c : Thread nD τ) ↦[aM.view.set]{half} X m c
def xPts (c : Dev nD) (k : Fin 4) (f : FVec F S256x256 .f32) : sProp 𝕄 := (xC k).view.loc (c : Thread nD τ) ↦[(xC k).view.set]{fullShare} f
def sPts (c : Dev nD) (k : Fin 4) (f : FVec F S256x256 .bf16) : sProp 𝕄 := (sC k).view.loc (c : Thread nD τ) ↦[(sC k).view.set]{fullShare} f
def rPts (c : Dev nD) (k : Fin 4) (f : FVec F S256x256 .bf16) : sProp 𝕄 := (rC k).view.loc (c : Thread nD τ) ↦[(rC k).view.set]{fullShare} f
def ownPts (c : Dev nD) (f : FVec F S512x256 .f32) : sProp 𝕄 := (oOwn c).view.loc (c : Thread nD τ) ↦[(oOwn c).view.set]{fullShare} f
def inPts (c : Dev nD) (k : Fin 4) (f : FVec F S512x256 .f32) : sProp 𝕄 := (oM.access (rectIn c k)).loc (c : Thread nD τ) ↦[(oM.access (rectIn c k)).set]{fullShare} f

omit [FloatOps F] in
instance aPts_storable (c k) : BI.Storable (upEmb : UEmb _ 𝕄) (aPts m c k) := by unfold aPts; infer_instance
omit [FloatOps F] in
instance aOwn_storable (c) : BI.Storable (upEmb : UEmb _ 𝕄) (aOwn m c) := by unfold aOwn; infer_instance
omit [FloatOps F] in
instance xPts_storable (c k f) : BI.Storable (upEmb : UEmb _ 𝕄) (xPts (F := F) c k f) := by unfold xPts; infer_instance
omit [FloatOps F] in
instance sPts_storable (c k f) : BI.Storable (upEmb : UEmb _ 𝕄) (sPts (F := F) c k f) := by unfold sPts; infer_instance
omit [FloatOps F] in
instance rPts_storable (c k f) : BI.Storable (upEmb : UEmb _ 𝕄) (rPts (F := F) c k f) := by unfold rPts; infer_instance
omit [FloatOps F] in
instance ownPts_storable (c f) : BI.Storable (upEmb : UEmb _ 𝕄) (ownPts (F := F) c f) := by unfold ownPts; infer_instance

/-! ## The cells and what each is paid

The fourteen cells of a device are numbered: 0 is the barrier semaphore, `i > 0` is DMA semaphore `i` — 1 to 4 the
departures of the four chunks, 5 to 8 their arrivals, 9 the transfer of the own block, 10 to 13 the staging of the chunks. -/

abbrev barS : Sem sig := sig.barrier 0 rfl
/-- The semaphore of cell `i`. -/
def ksem (i : Fin 14) : SemLoc sig := if i = 0 then .reg barS else .dma ⟨i.val, i.isLt⟩
abbrev kcell (ck : Dev nD × Fin 14) : GSem nD τ sig := ((ck.1 : Thread nD τ), ksem ck.2)

def sendI (k : Fin 4) : Fin 14 := ⟨1 + k.val, by omega⟩
def recvI (k : Fin 4) : Fin 14 := ⟨5 + k.val, by omega⟩
def ownI : Fin 14 := 9
def stageI (k : Fin 4) : Fin 14 := ⟨10 + k.val, by omega⟩

/-- The number of a semaphore's cell. -/
def ixOf : SemLoc sig → Fin 14
  | .reg _ => 0
  | .dma q => ⟨q.val, q.isLt⟩

theorem ixOf_ksem (i : Fin 14) : ixOf (ksem i) = i := by revert i; decide

/-- The units of a bf16 chunk, of a staged chunk, and of the own block. -/
abbrev Nb : ℕ := (rC 0).view.dmaCredit
abbrev Ns : ℕ := (xC 0).view.dmaCredit
abbrev No : ℕ := (oOwn 0).view.dmaCredit

def amt (i : Fin 14) : ℕ := if i = 0 then 1 else if i.val ≤ 8 then Nb else if i = 9 then No else Ns

theorem amt_pos (i : Fin 14) : 0 < amt i := by
  unfold amt; split; · exact Nat.one_pos
  split; · exact View.dmaCredit_pos _ (by decide)
  split <;> exact View.dmaCredit_pos _ (by decide)

theorem amt_send (k : Fin 4) : amt (sendI k) = Nb := by fin_cases k <;> rfl
theorem amt_recv (k : Fin 4) : amt (recvI k) = Nb := by fin_cases k <;> rfl
theorem amt_own : amt ownI = No := rfl
theorem amt_stage (k : Fin 4) : amt (stageI k) = Ns := by fin_cases k <;> rfl

/-- The partner's signal hands over its four landing chunks, whatever they hold. -/
def barPay (c : Dev nD) : sProp 𝕄 := bigSep Finset.univ fun k : Fin 4 => iprop(∃ f, rPts (peer c) k f)
def sendPay (c : Dev nD) (k : Fin 4) : sProp 𝕄 := sPts c k (T m c)
def recvPay (c : Dev nD) (k : Fin 4) : sProp 𝕄 := rPts c k (T m (peer c))
def ownPay (c : Dev nD) : sProp 𝕄 := iprop(ownPts c (O m c) ∗ aOwn m c)
def stagePay (c : Dev nD) (k : Fin 4) : sProp 𝕄 := iprop(xPts c k (X m c) ∗ aPts m c k)

/-- What cell `i` of device `c` is paid. -/
def pay (c : Dev nD) (i : Fin 14) : sProp 𝕄 :=
  if i = 0 then barPay c
  else if i.val ≤ 4 then sendPay m c ⟨(i.val - 1) % 4, Nat.mod_lt _ (by decide)⟩
  else if i.val ≤ 8 then recvPay m c ⟨(i.val - 5) % 4, Nat.mod_lt _ (by decide)⟩
  else if i = 9 then ownPay m c
  else stagePay m c ⟨(i.val - 10) % 4, Nat.mod_lt _ (by decide)⟩

theorem pay_bar (c : Dev nD) : pay m c 0 = barPay c := rfl
theorem pay_send (c : Dev nD) (k : Fin 4) : pay m c (sendI k) = sendPay m c k := by fin_cases k <;> rfl
theorem pay_recv (c : Dev nD) (k : Fin 4) : pay m c (recvI k) = recvPay m c k := by fin_cases k <;> rfl
theorem pay_own (c : Dev nD) : pay m c ownI = ownPay m c := rfl
theorem pay_stage (c : Dev nD) (k : Fin 4) : pay m c (stageI k) = stagePay m c k := by fin_cases k <;> rfl

instance pay_storable (c i) : BI.Storable (upEmb : UEmb _ 𝕄) (pay m c i) := by
  unfold pay barPay sendPay recvPay ownPay stagePay
  (repeat' split) <;> infer_instance

/-- Each cell is paid once, in its first round. -/
def sched : Rounds.Schedule (GSem nD τ sig) Unit 𝕄 where
  duties g r := if r = 0 ∧ g.1.2 = .tc ∧ g.2 = ksem (ixOf g.2) then {()} else ∅
  unitless _ := False
  amount g _ _ := amt (ixOf g.2)
  payload g _ _ := pay m g.1.1 (ixOf g.2)
  amount_pos g _ _ _ := amt_pos _

instance sched_payload_storable (g : GSem nD τ sig) (r : ℕ) (d : Unit) : BI.Storable (upEmb : UEmb _ 𝕄) ((sched m).payload g r d) :=
  pay_storable m _ _

section Sched
variable (c : Dev nD) (i : Fin 14)

theorem duties_eq : (sched m).duties (kcell (c, i)) 0 = {()} := by
  dsimp only [sched]; exact if_pos ⟨rfl, rfl, by rw [ixOf_ksem]⟩
theorem mem_duties : () ∈ (sched m).duties (kcell (c, i)) 0 := by rw [duties_eq]; exact Finset.mem_singleton_self _
theorem duties_later (g : GSem nD τ sig) : ∀ r, 1 ≤ r → (sched m).duties g r = ∅ :=
  fun r hr => by dsimp only [sched]; exact if_neg fun h => by omega
theorem amount_eq (u : Unit) : (sched m).amount (kcell (c, i)) 0 u = amt i := by dsimp only [sched]; rw [ixOf_ksem]
theorem payload_eq (u : Unit) : (sched m).payload (kcell (c, i)) 0 u = pay m c i := by dsimp only [sched]; rw [ixOf_ksem]
theorem expect_eq : (sched m).expect (kcell (c, i)) 0 = amt i := by
  unfold Schedule.expect Schedule.amountOf; rw [duties_eq, Finset.sum_singleton, amount_eq]
theorem rest_eq : bigSep ((sched m).duties (kcell (c, i)) 0 \ ∅) (fun u => (sched m).payload (kcell (c, i)) 0 u) = pay m c i := by
  rw [Finset.sdiff_empty, duties_eq, bigSep_singleton, payload_eq]

end Sched

/-! ## What a device owes, and the levels -/

/-- The arrivals of the partner's chunks `n`, `n + 1`, … not yet sent. -/
def owR (c : Dev nD) (n : ℕ) : CellTallies nD τ sig Unit :=
  ∑ k ∈ Finset.univ.filter (fun k : Fin 4 => n ≤ k.val), tallyAt (kcell (peer c, recvI k)) () Nb

theorem owR_step (c : Dev nD) (k : Fin 4) : owR c k.val = owR c (k.val + 1) + tallyAt (kcell (peer c, recvI k)) () Nb := by
  have h : Finset.univ.filter (fun j : Fin 4 => k.val ≤ j.val) = insert k (Finset.univ.filter (fun j : Fin 4 => k.val + 1 ≤ j.val)) := by
    revert k; decide
  unfold owR; rw [h, Finset.sum_insert (by simp), add_comm]

theorem owR_four (c : Dev nD) : owR c 4 = 0 := by
  have h : Finset.univ.filter (fun j : Fin 4 => 4 ≤ j.val) = ∅ := by decide
  unfold owR; rw [h, Finset.sum_empty]

/-- At the start a device owes its partner four arrivals and one barrier signal. -/
def O₀ (c : Dev nD) : CellTallies nD τ sig Unit := owR c 0 + tallyAt (kcell (peer c, 0)) () 1

def L (g : GSem nD τ sig) : Finset Unit := if g.1.2 = .tc then {()} else ∅
def lev : SemLoc sig → ℕ
  | .reg _ => 1
  | .dma q => if 5 ≤ q.val ∧ q.val ≤ 8 then 2 else 0
/-- Barrier waits come before arrivals, everything else before both. -/
def lv (g : GSem nD τ sig) (_ : Unit) : ℕ := lev g.2
theorem L_of_ne (g : GSem nD τ sig) (h : g.1.2 ≠ .tc) : L g = ∅ := if_neg h
theorem L_tc (c : Dev nD) (sm : SemLoc sig) : L ((c : Thread nD τ), sm) = {()} := if_pos rfl

theorem owR_pos {c : Dev nD} {n : ℕ} {g : GSem nD τ sig} {u : Unit} (h : 0 < owR c n g u) : ∃ k, g = kcell (peer c, recvI k) := by
  unfold owR at h
  rw [Finset.sum_apply, Finsupp.finset_sum_apply] at h
  by_contra hn
  refine absurd h (by rw [Finset.sum_eq_zero]; exact Nat.lt_irrefl 0; intro k _; rw [tallyAt_apply, if_neg fun h' => hn ⟨k, h'.1⟩])

theorem O₀_pos {c : Dev nD} {g : GSem nD τ sig} {u : Unit} (h : 0 < O₀ c g u) : (∃ k, g = kcell (peer c, recvI k)) ∨ g = kcell (peer c, 0) := by
  unfold O₀ at h
  rw [Pi.add_apply, Finsupp.add_apply, tallyAt_apply] at h
  by_cases h2 : g = kcell (peer c, 0)
  · exact .inr h2
  · rw [if_neg fun h' => h2 h'.1, Nat.add_zero] at h; exact .inl (owR_pos h)

theorem lev_recv (k : Fin 4) : lev (ksem (recvI k)) = 2 := by revert k; decide
theorem lev_bar : lev (ksem 0) = 1 := by decide

omit [FloatOps F] in
/-- A wait below everything a device owes is allowed. -/
theorem mayWait_of_lev (c : Dev nD) (sm : SemLoc sig) (Ow : CellTallies nD τ sig Unit)
    (h : ∀ g u, 0 < Ow g u → g.1.2 = .tc ∧ lev sm < lev g.2) :
    (levAts L lv : sProp 𝕄) ⊢ MayWait (c : Thread nD τ) sm () Ow :=
  MayOwe.of_cut (L := L) (lev := lv) (lev sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

omit [FloatOps F] in
theorem mayWait_owR (c : Dev nD) (n : ℕ) (sm : SemLoc sig) (h : lev sm < 2) : (levAts L lv : sProp 𝕄) ⊢ MayWait (c : Thread nD τ) sm () (owR c n) :=
  mayWait_of_lev c sm _ fun g u hg => by obtain ⟨k, rfl⟩ := owR_pos hg; exact ⟨rfl, by rw [lev_recv]; exact h⟩

omit [FloatOps F] in
theorem mayWait_O₀ (c : Dev nD) (sm : SemLoc sig) (h : lev sm < 1) : (levAts L lv : sProp 𝕄) ⊢ MayWait (c : Thread nD τ) sm () (O₀ c) :=
  mayWait_of_lev c sm _ fun g u hg => by
    rcases O₀_pos hg with ⟨k, rfl⟩ | rfl
    · exact ⟨rfl, by rw [lev_recv]; omega⟩
    · exact ⟨rfl, by rw [lev_bar]; exact h⟩

end Cert.KernelIdeal.Swap

end
-- ==== Proof.IdealSteps.lean ====
/-
# The kernel's steps

The kernel as a short sequence of steps — start the own block's transfer, start staging each chunk, signal the partner,
wait for its signal, send each chunk, receive each chunk, wait out the remaining transfers — and for each step, at any
chunk `k`, what it needs and what it leaves.
-/
module

public import proofs.«01_k».proof.Proof.IdealProtocol

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
/-- Programs of a core, returning nothing. -/
abbrev P (F : FTy → Type) : Type 1 := Prog (TpuEff nD τ sig (Elt F) Λ₀ .tc) PUnit

abbrev 𝒱₀ : Variants := Variants.none

/-! ## The program in steps -/

/-- DMA semaphore of cell `i`. -/
abbrev dq (i : Fin 14) : DmaSem sig := ⟨i.val, i.isLt⟩

theorem ksem_bar : ksem 0 = .reg barS := rfl
theorem ksem_dma {i : Fin 14} (h : i ≠ 0) : ksem i = .dma (dq i) := if_neg h
theorem send_ne (k : Fin 4) : sendI k ≠ 0 := by revert k; decide
theorem recv_ne (k : Fin 4) : recvI k ≠ 0 := by revert k; decide
theorem stage_ne (k : Fin 4) : stageI k ≠ 0 := by revert k; decide
theorem own_ne : ownI ≠ 0 := by decide

theorem exact_s (k : Fin 4) : (sC k).view.WordExact := by
  fin_cases k
  · exact (Memref.isWhole_whole _).wordExact_slice rfl _ wordsbf16_S256x256_S64x256_0_0
  · exact (Memref.isWhole_whole _).wordExact_slice rfl _ wordsbf16_S256x256_S64x256_64_0
  · exact (Memref.isWhole_whole _).wordExact_slice rfl _ wordsbf16_S256x256_S64x256_128_0
  · exact (Memref.isWhole_whole _).wordExact_slice rfl _ wordsbf16_S256x256_S64x256_192_0
theorem exact_r (k : Fin 4) : (rC k).view.WordExact := by
  fin_cases k
  · exact (Memref.isWhole_whole _).wordExact_slice rfl _ wordsbf16_S256x256_S64x256_0_0
  · exact (Memref.isWhole_whole _).wordExact_slice rfl _ wordsbf16_S256x256_S64x256_64_0
  · exact (Memref.isWhole_whole _).wordExact_slice rfl _ wordsbf16_S256x256_S64x256_128_0
  · exact (Memref.isWhole_whole _).wordExact_slice rfl _ wordsbf16_S256x256_S64x256_192_0
theorem stores_s (k : Fin 4) : (sM.access (rect k)).Stores Finset.univ := by
  fin_cases k
  · exact View.stores_vmem h_S64x256 ((Memref.isWhole_whole _).storeExact_slice rfl _ packedbf16_S256x256_S64x256_0_0) (fun _ => rfl)
  · exact View.stores_vmem h_S64x256 ((Memref.isWhole_whole _).storeExact_slice rfl _ packedbf16_S256x256_S64x256_64_0) (fun _ => rfl)
  · exact View.stores_vmem h_S64x256 ((Memref.isWhole_whole _).storeExact_slice rfl _ packedbf16_S256x256_S64x256_128_0) (fun _ => rfl)
  · exact View.stores_vmem h_S64x256 ((Memref.isWhole_whole _).storeExact_slice rfl _ packedbf16_S256x256_S64x256_192_0) (fun _ => rfl)

/-- The device's block starts on its way into the result. -/
def goOwn (c : Dev nD) (p : P F) : P F :=
  .op (.enqueueDma aM (.here (oOwn c)) (.dma (dq ownI)) (Memref.isWhole_whole _).wordExact (View.wordExact_bits rfl) ⟨Or.inl rfl, trivial⟩) fun _ => p
/-- Chunk `k` starts on its way into the staging buffer. -/
def goStage (k : Fin 4) (p : P F) : P F :=
  .op (.enqueueDma (aC k) (.here (xC k)) (.dma (dq (stageI k))) (View.wordExact_bits rfl) (View.wordExact_bits rfl) ⟨Or.inl rfl, trivial⟩) fun _ => p
/-- The partner is told, and the partner's word awaited. -/
def meet (d : Dev nD) (p : P F) : P F :=
  .op (.semSignal (d, .tc) barS 1) fun _ => .op (.semWait barS 1) fun _ => p
/-- Chunk `k` is rounded. -/
def fill (k : Fin 4) (p : P F) : P F :=
  .op (.waitDma2 (dq (stageI k)) (aC k) (xC k) (View.wordExact_bits rfl) (View.wordExact_bits rfl)) fun _ =>
  .op (.load xM (rect k).toLoadRect (View.loadsAt_vmem h_S64x256)) fun v =>
  .op (.load sM (rect k).toLoadRect (View.loadsAt_vmem h_S64x256)) fun _ =>
  .op (.store sM (rect k) (k0_pay1 v) Finset.univ (stores_s k) (.inl rfl)) fun _ => p
/-- Chunk `k` is sent to device `d`. -/
def send (d : Dev nD) (k : Fin 4) (p : P F) : P F :=
  .op (.enqueueDma (sC k) (.remote (Dev.tc d) (rC k) (.dma (dq (sendI k)))) (.dma (dq (recvI k))) (exact_s k) (exact_r k) ⟨⟨rfl, Or.inl rfl⟩, trivial⟩) fun _ => p
/-- The partner's chunk `k` is awaited and written to the result. -/
def take (c : Dev nD) (k : Fin 4) (p : P F) : P F :=
  .op (.waitDma2 (dq (recvI k)) (sC k) (rC k) (exact_s k) (exact_r k)) fun _ =>
  .op (.load rM (rect k).toLoadRect (View.loadsAt_vmem h_S64x256)) fun v =>
  .op (.load oM (rectIn c k).toLoadRect (View.loadsAt_vmem h_S64x256)) fun _ =>
  .op (.store oM (rectIn c k) (k0_pay6 v) Finset.univ (View.stores_vmem_bits_univ h_S64x256 rfl) (.inl rfl)) fun _ => p
/-- The own block's transfer is waited out. -/
def endOwn (c : Dev nD) (p : P F) : P F :=
  .op (.waitDma2 (dq ownI) aM (oOwn c) (Memref.isWhole_whole _).wordExact (View.wordExact_bits rfl)) fun _ => p
/-- The departure of chunk `k` is waited out. -/
def endSend (k : Fin 4) (p : P F) : P F :=
  .op (.waitDma2 (dq (sendI k)) (rC k) (sC k) (exact_r k) (exact_s k)) fun _ => p

/-- The kernel on device `c`, the devices it names `d1` to `d5`. -/
def steps (c d1 d2 d3 d4 d5 : Dev nD) : P F :=
  goOwn c <| goStage 0 <| goStage 1 <| goStage 2 <| goStage 3 <| meet d1 <|
  fill 0 <| send d2 0 <| fill 1 <| send d3 1 <| fill 2 <| send d4 2 <| fill 3 <| send d5 3 <|
  take c 0 <| take c 1 <| take c 2 <| take c 3 <|
  endOwn c <| endSend 0 <| endSend 1 <| endSend 2 <| endSend 3 <| .ret ⟨⟩

set_option maxRecDepth 65536 in
/-- The printed kernel is the sequence of steps. -/
theorem body_steps :
    cc0_body (F := F) aM (Memref.isWhole_whole _) oM (Memref.isWhole_whole _) xM (Memref.isWhole_whole _) sM (Memref.isWhole_whole _)
        rM (Memref.isWhole_whole _) cc0_scratch3 cc0_scratch4 cc0_scratch5 cc0_scratch6
      = .op .deviceId fun c => steps c ⟨k0_dev1 c, k0_dev1_lt c⟩ ⟨k0_dev2 c, k0_dev2_lt c⟩ ⟨k0_dev3 c, k0_dev3_lt c⟩
          ⟨k0_dev4 c, k0_dev4_lt c⟩ ⟨k0_dev5 c, k0_dev5_lt c⟩ := by
  rfl

/-! ## What the transfers and stores leave -/

section Values
variable (m : (ℓ : Loc nD τ sig) → Buf (Elt F) ℓ) (c : Dev nD) (k : Fin 4)

omit [FloatOps F] in
/-- Staging chunk `k` leaves the block's chunk `k`. -/
theorem staged (fd : FVec F S256x256 .f32) (i) (hi : i ∈ (xC k).view.set) :
    (xC k).view.write (Elt F) fd ((aC k).view.read (Elt F) (X m c)) Finset.univ i = X m c i := by
  obtain ⟨j, -, rfl⟩ := Finset.mem_map.mp hi
  rw [View.write_emb_of_mem _ _ (Finset.mem_univ _)]; rfl

omit [FloatOps F] in
/-- An arrival leaves the sent chunk. -/
theorem arrived (t : FVec F S256x256 .bf16) (fd : FVec F S256x256 .bf16) (i) (hi : i ∈ (rC k).view.set) :
    (rC k).view.write (Elt F) fd ((sC k).view.read (Elt F) t) Finset.univ i = t i := by
  obtain ⟨j, -, rfl⟩ := Finset.mem_map.mp hi
  rw [View.write_emb_of_mem _ _ (Finset.mem_univ _)]; rfl

/-- Rounding chunk `k` leaves the rounded block's chunk `k`. -/
theorem rounded (fd : FVec F S256x256 .bf16) (i) (hi : i ∈ (sC k).view.set) :
    (sM.access (rect k)).write (Elt F) fd (k0_pay1 (xM.view.readAt (Elt F) (rect k).toLoadRect (X m c))) Finset.univ i = T m c i := by
  obtain ⟨j, -, rfl⟩ := Finset.mem_map.mp hi
  rw [View.write_emb_of_mem _ _ (Finset.mem_univ _)]
  unfold k0_pay1; dsimp only; rw [shapeCast_self]; rfl

theorem place_own (j : (rectOwn c).shape.Idx) : low ((rectOwn c).emb j) = j ∧ ((rectOwn c).emb j 0).val / 256 = c.val / 4 := by
  have h0 : ((rectOwn c).emb j 0).val = 256 * (c.val / 4) + (j 0).val := by
    rw [ValueKit.rect_emb_unit_val]; exact congrArg (· + (j 0).val) (congrFun (k0_off1_eq c) 0)
  have h1 : ((rectOwn c).emb j 1).val = (j 1).val := by
    rw [ValueKit.rect_emb_unit_val]; exact (congrArg (· + (j 1).val) (congrFun (k0_off1_eq c) 1)).trans (Nat.zero_add _)
  have l0 : (j 0).val < 256 := (j 0).isLt
  have l1 : (j 1).val < 256 := (j 1).isLt
  refine ⟨funext fun a => Fin.ext ?_, by omega⟩
  fin_cases a
  · show ((rectOwn c).emb j 0).val % 256 = (j 0).val; omega
  · show ((rectOwn c).emb j 1).val % 256 = (j 1).val; omega

theorem place_in (j : (rect k).shape.Idx) :
    low ((rectIn c k).emb j) = (rect k).emb j ∧ ((rectIn c k).emb j 0).val / 256 ≠ c.val / 4 := by
  have h0 : ((rectIn c k).emb j 0).val = (64 * k.val + 256 - 256 * (c.val / 4)) + (j 0).val := by
    rw [ValueKit.rect_emb_unit_val]; exact congrArg (· + (j 0).val) (congrFun (k0_off2_eq c k) 0)
  have h1 : ((rectIn c k).emb j 1).val = (j 1).val := by
    rw [ValueKit.rect_emb_unit_val]; exact (congrArg (· + (j 1).val) (congrFun (k0_off2_eq c k) 1)).trans (Nat.zero_add _)
  have g0 : ((rect k).emb j 0).val = 64 * k.val + (j 0).val := by rw [ValueKit.rect_emb_unit_val]; rfl
  have g1 : ((rect k).emb j 1).val = (j 1).val := by rw [ValueKit.rect_emb_unit_val]; exact Nat.zero_add _
  have l0 : (j 0).val < 64 := (j 0).isLt
  have l1 : (j 1).val < 256 := (j 1).isLt
  have lc := row_lt c
  have lk := k.isLt
  refine ⟨funext fun a => Fin.ext ?_, by omega⟩
  fin_cases a
  · show ((rectIn c k).emb j 0).val % 256 = ((rect k).emb j 0).val; omega
  · show ((rectIn c k).emb j 1).val % 256 = ((rect k).emb j 1).val; omega

/-- The own block's transfer leaves the own rows of the result. -/
theorem owned (fd : FVec F S512x256 .f32) (i) (hi : i ∈ (oOwn c).view.set) :
    (oOwn c).view.write (Elt F) fd (aM.view.read (Elt F) (X m c)) Finset.univ i = O m c i := by
  obtain ⟨j, -, rfl⟩ := Finset.mem_map.mp hi
  rw [View.write_emb_of_mem _ _ (Finset.mem_univ _)]
  have h := place_own c j
  show X m c j = O m c ((rectOwn c).emb j)
  unfold O; rw [if_pos h.2, h.1]

/-- Taking the partner's chunk `k` leaves its rows of the result. -/
theorem taken (fd : FVec F S512x256 .f32) (i) (hi : i ∈ (oM.access (rectIn c k)).set) :
    (oM.access (rectIn c k)).write (Elt F) fd (k0_pay6 (rM.view.readAt (Elt F) (rect k).toLoadRect (T m (peer c)))) Finset.univ i = O m c i := by
  obtain ⟨j, -, rfl⟩ := Finset.mem_map.mp hi
  rw [View.write_emb_of_mem _ _ (Finset.mem_univ _)]
  have h := place_in c k j
  show extf .f32 (T m (peer c)) bitsLt_bf16_f32 ((rect k).emb j) = O m c ((rectIn c k).emb j)
  unfold O; rw [if_neg h.2, h.1]

end Values

end Cert.KernelIdeal.Swap

end
-- ==== Proof.IdealRules.lean ====
/-
# Each step's rule

For each step of the kernel, at any chunk `k`, what the device must hold to take it and what it holds afterwards. All
steps run under `ctx`: every cell's invariant, every cell's first round reached, and the levels.
-/
module

public import proofs.«01_k».proof.Proof.IdealSteps

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What all steps share -/

/-- Every cell's invariant, under the name `K` gives it, and its first round reached. -/
def records (K : Dev nD × Fin 14 → ℕ) : sProp 𝕄 :=
  iprop((bigSep Finset.univ fun ck : Dev nD × Fin 14 => cellInv ER (sched m) (K ck) (kcell ck))
    ∗ bigSep Finset.univ fun ck : Dev nD × Fin 14 => reached ER (kcell ck) 0)

instance records_persistent (K : Dev nD × Fin 14 → ℕ) : BI.Persistent (records m K) := by unfold records; infer_instance

def ctx (K : Dev nD × Fin 14 → ℕ) : sProp 𝕄 := iprop(records m K ∗ levAts L lv)

instance ctx_persistent (K : Dev nD × Fin 14 → ℕ) : BI.Persistent (ctx m K) := by unfold ctx; infer_instance

variable (K : Dev nD × Fin 14 → ℕ)

theorem inv_at (ck : Dev nD × Fin 14) :
    (bigSep Finset.univ fun ck : Dev nD × Fin 14 => (cellInv ER (sched m) (K ck) (kcell ck) : sProp 𝕄)) ⊢ cellInv ER (sched m) (K ck) (kcell ck) :=
  bigSep_elim (Finset.mem_univ ck)
omit [FloatOps F] in
theorem reached_at (ck : Dev nD × Fin 14) :
    (bigSep Finset.univ fun ck : Dev nD × Fin 14 => (reached ER (kcell ck) 0 : sProp 𝕄)) ⊢ reached ER (kcell ck) 0 :=
  bigSep_elim (Finset.mem_univ ck)

theorem ctx_inv (ck : Dev nD × Fin 14) : ctx m K ⊢ cellInv ER (sched m) (K ck) (kcell ck) := by
  unfold ctx records
  iintro ⟨⟨H, -⟩, -⟩
  iapply (inv_at m K ck); iexact H
theorem ctx_reached (ck : Dev nD × Fin 14) : ctx m K ⊢ reached ER (kcell ck) 0 := by
  unfold ctx records
  iintro ⟨⟨-, H⟩, -⟩
  iapply (reached_at ck); iexact H
theorem ctx_lev : ctx m K ⊢ levAts L lv := by
  unfold ctx
  iintro ⟨-, H⟩; iexact H

/-- The right to pay cell `i` of device `c`. -/
abbrev tok (c : Dev nD) (i : Fin 14) : sProp 𝕄 := dutyTok ER (kcell (c, i)) 0 ()
/-- Cell `i` of device `c` is not yet waited on. -/
abbrev pos (c : Dev nD) (i : Fin 14) : sProp 𝕄 := atPos ER (kcell (c, i)) 0 ∅ 0
/-- The units cell `i` of device `c` will receive. -/
abbrev crd (c : Dev nD) (i : Fin 14) : sProp 𝕄 := cred (tallyAt (kcell (c, i)) () (amt i))
/-- Cell `i` of device `c` is finished, at zero. -/
abbrev done (c : Dev nD) (i : Fin 14) : sProp 𝕄 := semVal (kcell (c, i)) 0
/-- Device `c` owes `Ow`. -/
def debt (c : Dev nD) (Ow : CellTallies nD τ sig Unit) : sProp 𝕄 := iprop(∃ W, owes (c : Thread nD τ) Ow W)

variable (c : Dev nD) (p : P F)

/-- The program `p` runs on device `c` and ends in `Q`. -/
abbrev runs (c : Dev nD) (p : P F) (Q : PUnit.{1} → sProp 𝕄) : sProp 𝕄 := wp frame (wpE (defs₀ (F := F)) 𝒱₀ (c : Thread nD τ) none) Set.univ p Q

/-- Closing a cell whose one payment is taken. -/
theorem close_cell (i : Fin 14) : iprop(ctx m K ∗ atPos ER (kcell (c, i)) (0 + 1) ∅ 0) ⊢ iprop(|={Set.univ}=> done c i) := by
  iintro ⟨#Hc, Hat⟩
  iapply (Rounds.cell_close ER (sched m) (Set.mem_univ (K (c, i))) (fun h => h) (R := 0 + 1) (duties_later m (kcell (c, i))))
  isplitr; · iapply (ctx_inv m K (c, i)); iexact Hc
  iexact Hat

/-- A wait on DMA cell `i`, for the whole of its one payment. -/
theorem wp_dma_wait (i : Fin 14) (hi : i ≠ 0) (Ow : CellTallies nD τ sig Unit) (hmay : (levAts L lv : sProp 𝕄) ⊢ MayWait (c : Thread nD τ) (ksem i) () Ow)
    {sp sp' : Space} {s s' : Shape} {e e' : EltTy} {src : Memref sig .tc sp' s' e'} {dst : Memref sig .tc sp s e}
    {hsrc : src.view.WordExact} {hdst : dst.view.WordExact} (hamt : dst.view.dmaCredit = amt i) {k : PUnit → P F} {Q : PUnit.{1} → sProp 𝕄} :
    iprop(ctx m K ∗ crd c i ∗ debt c Ow ∗ pos c i)
      ⊢ iprop(((debt c Ow ∗ done c i ∗ pay m c i) -∗ runs c (k ⟨⟩) Q)
          -∗ runs c (.op (.waitDma2 (dq i) src dst hsrc hdst) k) Q) := by
  unfold debt
  have hw (Kt : PUnit.{1} → sProp 𝕄) : wpE (defs₀ (F := F)) 𝒱₀ (c : Thread nD τ) none Set.univ (.waitDma2 (dq i) src dst hsrc hdst) Kt
      = waitSpec (c : Thread nD τ) Set.univ (ksem i) (amt i) Kt := by
    rw [← hamt, ksem_dma hi]; exact wpE_waitDma2_eq 𝒱₀ (c : Thread nD τ) none Set.univ Kt
  have he : 0 + amt i = (sched m).expect ((c : Thread nD τ), ksem i) 0 := (Nat.zero_add _).trans (expect_eq m c i).symm
  iintro ⟨#Hc, Hcr, ⟨%W, HO⟩, Hat⟩ Hk
  iapply (Rounds.wp_wait_rest_token 𝒱₀ ER (sched m) (c : Thread nD τ) none (κ := K (c, i)) (sm := ksem i) (k' := amt i)
      hw (Set.mem_univ _) () (O := Ow) (W := W) (R := 0) (m := 0) (T := ∅) he) $$ [Hcr HO Hat]
  · isplitr; · iapply (ctx_inv m K (c, i)); iexact Hc
    isplitl [Hcr]; · iexact Hcr
    isplitl [HO]; · iexact HO
    isplitr; · iapply hmay; iapply (ctx_lev m K); iexact Hc
    iexact Hat
  iintro ⟨HO, Hat, -, Hpay⟩
  ihave Hp := (Entails.of_eq (rest_eq m c i)) $$ Hpay
  imod (close_cell m K c i) $$ [Hat] with Hz
  · isplitr; · iexact Hc
    iexact Hat
  iapply Hk
  isplitl [HO]; · iexists _; iexact HO
  isplitl [Hz] <;> iassumption

/-! ## The steps -/

theorem wp_goOwn (f : FVec F S512x256 .f32) {Q : PUnit.{1} → sProp 𝕄} :
    iprop(ctx m K ∗ aOwn m c ∗ ownPts c f ∗ tok c ownI) ⊢ iprop((crd c ownI -∗ runs c p Q) -∗ runs c (goOwn c p) Q) := by
  unfold goOwn aOwn ownPts
  simp only [← ksem_dma own_ne]
  iintro ⟨#Hc, Ha, Ho, Ht⟩ Hk
  iapply (Rounds.wp_copy_pointsTo 𝒱₀ ER (sched m) (c : Thread nD τ) none (κ := K (c, ownI)) (r := 0) (d := ()) (mem_duties m c ownI) () (amt ownI)
    (by rw [ksem_dma own_ne, amt_own]) (amount_eq m c ownI ()) (by
      refine BI.Entails.trans ?_ (Entails.of_eq (payload_eq m c ownI ()).symm)
      rw [pay_own]; unfold ownPay ownPts aOwn
      exact sep_mono_left (Entails.of_eq (pointsTo_congr (owned m c f))))) $$ [Ha Ho Ht]
  · isplitr; · iapply (ctx_inv m K (c, ownI)); iexact Hc
    isplitl [Ha]; · iexact Ha
    isplitl [Ho]; · iexact Ho
    isplitl [Ht]; · iexact Ht
    iapply (ctx_reached m K (c, ownI)); iexact Hc
  iexact Hk

theorem wp_goStage (k : Fin 4) (f : FVec F S256x256 .f32) {Q : PUnit.{1} → sProp 𝕄} :
    iprop(ctx m K ∗ aPts m c k ∗ xPts c k f ∗ tok c (stageI k)) ⊢ iprop((crd c (stageI k) -∗ runs c p Q) -∗ runs c (goStage k p) Q) := by
  unfold goStage aPts xPts
  simp only [← ksem_dma (stage_ne k)]
  iintro ⟨#Hc, Ha, Ho, Ht⟩ Hk
  iapply (Rounds.wp_copy_pointsTo 𝒱₀ ER (sched m) (c : Thread nD τ) none (κ := K (c, stageI k)) (r := 0) (d := ()) (mem_duties m c (stageI k)) () (amt (stageI k))
    (by rw [ksem_dma (stage_ne k), amt_stage]) (amount_eq m c (stageI k) ()) (by
      refine BI.Entails.trans ?_ (Entails.of_eq (payload_eq m c (stageI k) ()).symm)
      rw [pay_stage]; unfold stagePay xPts aPts
      exact sep_mono_left (Entails.of_eq (pointsTo_congr (staged m c k f))))) $$ [Ha Ho Ht]
  · isplitr; · iapply (ctx_inv m K (c, stageI k)); iexact Hc
    isplitl [Ha]; · iexact Ha
    isplitl [Ho]; · iexact Ho
    isplitl [Ht]; · iexact Ht
    iapply (ctx_reached m K (c, stageI k)); iexact Hc
  iexact Hk

/-- The device lends its landing chunks and gets its partner's. -/
theorem wp_meet {Q : PUnit.{1} → sProp 𝕄} :
    iprop(ctx m K ∗ debt c (O₀ c) ∗ tok (peer c) 0 ∗ (bigSep Finset.univ fun k : Fin 4 => iprop(∃ f, rPts c k f)) ∗ crd c 0 ∗ pos c 0)
      ⊢ iprop(((debt c (owR c 0) ∗ done c 0 ∗ bigSep Finset.univ fun k : Fin 4 => iprop(∃ f, rPts (peer c) k f)) -∗ runs c p Q)
          -∗ runs c (meet (peer c) p) Q) := by
  unfold meet debt
  iintro ⟨#Hc, ⟨%W, HO⟩, Ht, Hr, Hcr, Hat⟩ Hk
  iapply (Rounds.wp_signal 𝒱₀ ER (sched m) (c : Thread nD τ) none (dst := (peer c : Thread nD τ)) (sem := barS) (κ := K (peer c, 0)) (r := 0) (d := ()) (k' := 1)
      (mem_duties m (peer c) 0) (amount_eq m (peer c) 0 ()) () (owR c 0) rfl) $$ [HO Ht Hr]
  · isplitr; · iapply (ctx_inv m K (peer c, 0)); iexact Hc
    isplitl [HO]; · iexact HO
    isplitl [Ht]; · iexact Ht
    isplitl [Hr]
    · iapply (Entails.of_eq (show (sched m).payload ((peer c : Thread nD τ), .reg barS) 0 () = _ from payload_eq m (peer c) 0 ()).symm)
      rw [pay_bar]; unfold barPay; rw [peer_peer]; iexact Hr
    iapply (ctx_reached m K (peer c, 0)); iexact Hc
  iintro HO
  iapply (Rounds.wp_wait_rest_token 𝒱₀ ER (sched m) (c : Thread nD τ) none (κ := K (c, 0)) (sm := .reg barS) (k' := 1)
      (wpE_semWait_eq 𝒱₀ (c : Thread nD τ) none Set.univ) (Set.mem_univ _) () (O := owR c 0) (W := W) (R := 0) (m := 0) (T := ∅)
      (by rw [Nat.zero_add]; exact (expect_eq m c 0).symm)) $$ [Hcr HO Hat]
  · isplitr; · iapply (ctx_inv m K (c, 0)); iexact Hc
    isplitl [Hcr]; · iexact Hcr
    isplitl [HO]; · iexact HO
    isplitr; · iapply (mayWait_owR c 0 (.reg barS) (by decide)); iapply (ctx_lev m K); iexact Hc
    iexact Hat
  iintro ⟨HO, Hat, -, Hpay⟩
  ihave Hp := (Entails.of_eq (show bigSep ((sched m).duties ((c : Thread nD τ), .reg barS) 0 \ ∅) (fun u => (sched m).payload ((c : Thread nD τ), .reg barS) 0 u) = _ from (rest_eq m c 0).trans (pay_bar m c))) $$ Hpay
  imod (close_cell m K c 0) $$ [Hat] with Hz
  · isplitr; · iexact Hc
    iexact Hat
  iapply Hk
  isplitl [HO]; · iexists _; iexact HO
  isplitl [Hz]; · iexact Hz
  unfold barPay; iexact Hp

theorem wp_fill (k : Fin 4) (n : ℕ) {Q : PUnit.{1} → sProp 𝕄} :
    iprop(ctx m K ∗ crd c (stageI k) ∗ debt c (owR c n) ∗ pos c (stageI k) ∗ ∃ f, sPts c k f)
      ⊢ iprop(((debt c (owR c n) ∗ done c (stageI k) ∗ xPts c k (X m c) ∗ aPts m c k ∗ sPts c k (T m c)) -∗ runs c p Q)
          -∗ runs c (fill k p) Q) := by
  unfold fill
  iintro ⟨#Hc, Hcr, HO, Hat, ⟨%f, Hs⟩⟩ Hk
  iapply (wp_dma_wait m K c (stageI k) (stage_ne k) (owR c n) (mayWait_owR c n _ (by revert k; decide)) (by rw [amt_stage])) $$ [Hcr HO Hat]
  · isplitr; · iexact Hc
    isplitl [Hcr]; · iexact Hcr
    isplitl [HO] <;> iassumption
  iintro ⟨HO, Hz, Hp⟩
  ihave Hp' := (Entails.of_eq (pay_stage m c k)) $$ Hp
  unfold stagePay xPts sPts
  icases Hp' with ⟨Hx, Ha⟩
  iapply (wp_load 𝒱₀ (c : Thread nD τ) none Set.univ (m := xM) (View.set_slice _ _).ge) $$ Hx; iintro Hx
  iapply (wp_load 𝒱₀ (c : Thread nD τ) none Set.univ (m := sM) (View.set_slice _ _).ge) $$ Hs; iintro Hs
  iapply (wp_store 𝒱₀ (c : Thread nD τ) none Set.univ (m := sM) (r := rect k) (Mk := Finset.univ) (S := (sC k).view.set) (f := f) (fun i h => h)) $$ Hs; iintro Hs
  iapply Hk
  isplitl [HO]; · iexact HO
  isplitl [Hz]; · iexact Hz
  isplitl [Hx]; · iexact Hx
  isplitl [Ha]; · iexact Ha
  iapply (Entails.of_eq (pointsTo_congr (rounded m c k f))); iexact Hs

theorem wp_send_chunk (k : Fin 4) (f : FVec F S256x256 .bf16) {Q : PUnit.{1} → sProp 𝕄} :
    iprop(ctx m K ∗ sPts c k (T m c) ∗ rPts (peer c) k f ∗ debt c (owR c k.val) ∗ tok c (sendI k) ∗ tok (peer c) (recvI k))
      ⊢ iprop(((crd c (sendI k) ∗ debt c (owR c (k.val + 1))) -∗ runs c p Q) -∗ runs c (send (peer c) k p) Q) := by
  unfold send debt sPts rPts
  iintro ⟨#Hc, Hs, Hr, ⟨%W, HO⟩, Ht, Htp⟩ Hk
  have h1 : amt (sendI k) = Nb := amt_send k
  have h2 : amt (recvI k) = Nb := amt_recv k
  simp only [← ksem_dma (send_ne k), ← ksem_dma (recv_ne k)]
  iapply (Rounds.wp_send_pointsTo 𝒱₀ ER (sched m) (c : Thread nD τ) none (κ₁ := K (c, sendI k)) (κ₂ := K (peer c, recvI k))
    (r₁ := 0) (r₂ := 0) (d₁ := ()) (d₂ := ()) (fd := f) (mem_duties m c (sendI k)) (mem_duties m (peer c) (recvI k))
    () () Nb (by rw [ksem_dma (recv_ne k)]) ((amount_eq m c (sendI k) ()).trans h1) ((amount_eq m (peer c) (recvI k) ()).trans h2)
    (owR c (k.val + 1)) (owR_step c k) (W := W)
    (by
      refine BI.Entails.trans ?_ (Entails.of_eq (payload_eq m c (sendI k) ()).symm)
      rw [pay_send]; exact BI.Entails.refl _)
    (by
      refine BI.Entails.trans ?_ (Entails.of_eq (payload_eq m (peer c) (recvI k) ()).symm)
      rw [pay_recv]; unfold recvPay rPts; rw [peer_peer]
      exact Entails.of_eq (pointsTo_congr (arrived k (T m c) f)))) $$ [Hs Hr HO Ht Htp]
  · isplitr; · iapply (ctx_inv m K (c, sendI k)); iexact Hc
    isplitr; · iapply (ctx_inv m K (peer c, recvI k)); iexact Hc
    isplitl [Hs]; · iexact Hs
    isplitl [Hr]; · iexact Hr
    isplitl [HO]; · iexact HO
    isplitl [Ht]; · iexact Ht
    isplitr; · iapply (ctx_reached m K (c, sendI k)); iexact Hc
    isplitl [Htp]; · iexact Htp
    iapply (ctx_reached m K (peer c, recvI k)); iexact Hc
  rw [show (crd c (sendI k) : sProp 𝕄) = cred (tallyAt (kcell (c, sendI k)) () Nb) from by rw [← h1]]
  iintro ⟨Hcr, HO⟩
  iapply Hk
  isplitl [Hcr]; · iexact Hcr
  iexists _; iexact HO

theorem wp_take (k : Fin 4) {Q : PUnit.{1} → sProp 𝕄} :
    iprop(ctx m K ∗ crd c (recvI k) ∗ debt c 0 ∗ pos c (recvI k) ∗ ∃ f, inPts c k f)
      ⊢ iprop(((debt c 0 ∗ done c (recvI k) ∗ rPts c k (T m (peer c)) ∗ inPts c k (O m c)) -∗ runs c p Q) -∗ runs c (take c k p) Q) := by
  unfold take
  iintro ⟨#Hc, Hcr, HO, Hat, ⟨%f, Hs⟩⟩ Hk
  iapply (wp_dma_wait m K c (recvI k) (recv_ne k) 0 (by rw [MayWait_zero]; iintro -; iempintro) (by rw [amt_recv])) $$ [Hcr HO Hat]
  · isplitr; · iexact Hc
    isplitl [Hcr]; · iexact Hcr
    isplitl [HO] <;> iassumption
  iintro ⟨HO, Hz, Hp⟩
  ihave Hx := (Entails.of_eq (pay_recv m c k)) $$ Hp
  unfold recvPay rPts inPts
  iapply (wp_load 𝒱₀ (c : Thread nD τ) none Set.univ (m := rM) (View.set_slice _ _).ge) $$ Hx; iintro Hx
  iapply (wp_load 𝒱₀ (c : Thread nD τ) none Set.univ (m := oM) (View.set_slice _ _).ge) $$ Hs; iintro Hs
  iapply (wp_store 𝒱₀ (c : Thread nD τ) none Set.univ (m := oM) (r := rectIn c k) (Mk := Finset.univ) (S := (oM.access (rectIn c k)).set) (f := f) (fun i h => h)) $$ Hs; iintro Hs
  iapply Hk
  isplitl [HO]; · iexact HO
  isplitl [Hz]; · iexact Hz
  isplitl [Hx]; · iexact Hx
  iapply (Entails.of_eq (pointsTo_congr (taken m c k f))); iexact Hs

theorem wp_endOwn {Q : PUnit.{1} → sProp 𝕄} :
    iprop(ctx m K ∗ crd c ownI ∗ debt c 0 ∗ pos c ownI)
      ⊢ iprop(((debt c 0 ∗ done c ownI ∗ ownPts c (O m c) ∗ aOwn m c) -∗ runs c p Q) -∗ runs c (endOwn c p) Q) := by
  unfold endOwn
  iintro H Hk
  iapply (wp_dma_wait m K c ownI own_ne 0 (by rw [MayWait_zero]; iintro -; iempintro) (src := aM) (dst := oOwn c) amt_own.symm) $$ H
  iintro H
  iapply Hk; iexact H

theorem wp_endSend (k : Fin 4) {Q : PUnit.{1} → sProp 𝕄} :
    iprop(ctx m K ∗ crd c (sendI k) ∗ debt c 0 ∗ pos c (sendI k))
      ⊢ iprop(((debt c 0 ∗ done c (sendI k) ∗ sPts c k (T m c)) -∗ runs c p Q) -∗ runs c (endSend k p) Q) := by
  unfold endSend
  iintro H Hk
  iapply (wp_dma_wait m K c (sendI k) (send_ne k) 0 (by rw [MayWait_zero]; iintro -; iempintro) (by rw [amt_send])) $$ H
  iintro H
  iapply Hk
  rw [pay_send]; iexact H

end Cert.KernelIdeal.Swap

end
-- ==== Proof.IdealPieces.lean ====
/-
# Buffers cut into chunks and put together again

A 256 × 256 buffer held whole is its four chunks held apart; the 512 × 256 result is the rows of the own block and the
four chunks of the partner's rows.
-/
module

public import proofs.«01_k».proof.Proof.IdealRules

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The rectangles -/

theorem rect_disjoint : ∀ k ∈ (Finset.univ : Finset (Fin 4)), ∀ k' ∈ (Finset.univ : Finset (Fin 4)), k ≠ k' → Disjoint (rect k).set (rect k').set := by
  intro k _ k' _ h
  refine Rect.unit_disjoint (0 : Fin 2) ?_
  have h' : k.val ≠ k'.val := fun e => h (Fin.ext e)
  show 64 * k.val + 64 ≤ 64 * k'.val ∨ 64 * k'.val + 64 ≤ 64 * k.val
  omega

theorem rect_cover : Finset.univ.biUnion (fun k : Fin 4 => (rect k).set) = Finset.univ := by
  refine Finset.eq_univ_iff_forall.mpr fun i => ?_
  have h0 : (i 0).val < 256 := (i 0).isLt
  have h1 : (i 1).val < 256 := (i 1).isLt
  refine Finset.mem_biUnion.mpr ⟨⟨(i 0).val / 64, by omega⟩, Finset.mem_univ _, Rect.mem_set_unit.mpr fun a => ?_⟩
  fin_cases a
  · show 64 * ((i 0).val / 64) ≤ (i 0).val ∧ (i 0).val < 64 * ((i 0).val / 64) + 64; omega
  · show 0 ≤ (i 1).val ∧ (i 1).val < 0 + 256; omega

theorem own_off (a : Fin 2) : k0_off1 c a = (![256 * (c.val / 4), 0] : Fin 2 → ℕ) a := congrFun (k0_off1_eq c) a
theorem in_off (k : Fin 4) (a : Fin 2) :
    k0_off2 c (BitVec.ofNat 32 (64 * k.val)) a = (![64 * k.val + 256 - 256 * (c.val / 4), 0] : Fin 2 → ℕ) a := congrFun (k0_off2_eq c k) a

theorem in_disjoint : ∀ k ∈ (Finset.univ : Finset (Fin 4)), ∀ k' ∈ (Finset.univ : Finset (Fin 4)), k ≠ k' → Disjoint (rectIn c k).set (rectIn c k').set := by
  intro k _ k' _ h
  refine Rect.unit_disjoint (0 : Fin 2) ?_
  have h' : k.val ≠ k'.val := fun e => h (Fin.ext e)
  have lc := row_lt c
  rw [in_off c k 0, in_off c k' 0]
  show (64 * k.val + 256 - 256 * (c.val / 4)) + 64 ≤ 64 * k'.val + 256 - 256 * (c.val / 4) ∨ (64 * k'.val + 256 - 256 * (c.val / 4)) + 64 ≤ 64 * k.val + 256 - 256 * (c.val / 4)
  omega

theorem own_in_disjoint : Disjoint (rectOwn c).set (Finset.univ.biUnion fun k : Fin 4 => (rectIn c k).set) := by
  refine (Finset.disjoint_biUnion_right _ _ _).mpr fun k _ => Rect.unit_disjoint (0 : Fin 2) ?_
  have lc := row_lt c
  have lk := k.isLt
  rw [own_off c 0, in_off c k 0]
  show 256 * (c.val / 4) + 256 ≤ 64 * k.val + 256 - 256 * (c.val / 4) ∨ (64 * k.val + 256 - 256 * (c.val / 4)) + 64 ≤ 256 * (c.val / 4)
  omega

theorem own_in_cover : (rectOwn c).set ∪ (Finset.univ.biUnion fun k : Fin 4 => (rectIn c k).set) = Finset.univ := by
  refine Finset.eq_univ_iff_forall.mpr fun i => Finset.mem_union.mpr ?_
  have lc := row_lt c
  have h0 : (i 0).val < 512 := (i 0).isLt
  have h1 : (i 1).val < 256 := (i 1).isLt
  by_cases h : (i 0).val / 256 = c.val / 4
  · refine .inl (Rect.mem_set_unit.mpr fun a => ?_)
    rw [own_off c a]
    fin_cases a
    · show 256 * (c.val / 4) ≤ (i 0).val ∧ (i 0).val < 256 * (c.val / 4) + 256; omega
    · show 0 ≤ (i 1).val ∧ (i 1).val < 0 + 256; omega
  · refine .inr (Finset.mem_biUnion.mpr ⟨⟨((i 0).val % 256) / 64, by omega⟩, Finset.mem_univ _, Rect.mem_set_unit.mpr fun a => ?_⟩)
    rw [in_off c _ a]
    fin_cases a
    · show 64 * ((i 0).val % 256 / 64) + 256 - 256 * (c.val / 4) ≤ (i 0).val
        ∧ (i 0).val < (64 * ((i 0).val % 256 / 64) + 256 - 256 * (c.val / 4)) + 64
      omega
    · show 0 ≤ (i 1).val ∧ (i 1).val < 0 + 256; omega

theorem set_a (k : Fin 4) : (aC k).view.set = (rect k).set := View.set_slice_whole _ _
theorem set_x (k : Fin 4) : (xC k).view.set = (rect k).set := View.set_slice_whole _ _
theorem set_s (k : Fin 4) : (sC k).view.set = (rect k).set := View.set_slice_whole _ _
theorem set_r (k : Fin 4) : (rC k).view.set = (rect k).set := View.set_slice_whole _ _
theorem set_own : (oOwn c).view.set = (rectOwn c).set := View.set_slice_whole _ _
theorem set_in (k : Fin 4) : (oM.access (rectIn c k)).set = (rectIn c k).set := View.set_slice_whole _ _

/-! ## The buffers -/

/-- A device's argument, whole at the full share, is its half for the own block's transfer and its four chunks at the other half. -/
theorem a_cut : (((c : Thread nD τ).loc main_arg0) ↦{fullShare} X m c : sProp 𝕄)
    ⊣⊢ iprop(aOwn m c ∗ bigSep Finset.univ fun k : Fin 4 => aPts m c k) := by
  have h : (((c : Thread nD τ).loc main_arg0) ↦{half'} X m c : sProp 𝕄) = bigSep Finset.univ fun k : Fin 4 => aPts m c k := by
    refine Eq.trans ?_ (pointsTo_biUnion (ℓ := (c : Thread nD τ).loc main_arg0) (q := half') (f := X m c) Finset.univ (fun k : Fin 4 => (rect k).set) rect_disjoint) |>.trans ?_
    · rw [rect_cover]
    · refine bigSep_congr fun k _ => ?_
      unfold aPts; rw [set_a]
  rw [← h]
  have ho : (aOwn m c : sProp 𝕄) = (((c : Thread nD τ).loc main_arg0) ↦{half} X m c) := by
    unfold aOwn; rw [show aM.view.set = Finset.univ from View.set_whole _]
  rw [ho]
  exact pointsTo_share (PosShare.mem_left_op_right fullShare)

omit [FloatOps F] in
theorem x_cut (f : FVec F S256x256 .f32) : (((c : Thread nD τ).loc cc0_scratch0) ↦{fullShare} f : sProp 𝕄) = bigSep Finset.univ fun k : Fin 4 => xPts c k f := by
  refine Eq.trans ?_ (pointsTo_biUnion (ℓ := (c : Thread nD τ).loc cc0_scratch0) (q := fullShare) (f := f) Finset.univ (fun k : Fin 4 => (rect k).set) rect_disjoint) |>.trans ?_
  · rw [rect_cover]
  · refine bigSep_congr fun k _ => ?_
    unfold xPts; rw [set_x]
omit [FloatOps F] in
theorem s_cut (f : FVec F S256x256 .bf16) : (((c : Thread nD τ).loc cc0_scratch1) ↦{fullShare} f : sProp 𝕄) = bigSep Finset.univ fun k : Fin 4 => sPts c k f := by
  refine Eq.trans ?_ (pointsTo_biUnion (ℓ := (c : Thread nD τ).loc cc0_scratch1) (q := fullShare) (f := f) Finset.univ (fun k : Fin 4 => (rect k).set) rect_disjoint) |>.trans ?_
  · rw [rect_cover]
  · refine bigSep_congr fun k _ => ?_
    unfold sPts; rw [set_s]
omit [FloatOps F] in
theorem r_cut (f : FVec F S256x256 .bf16) : (((c : Thread nD τ).loc cc0_scratch2) ↦{fullShare} f : sProp 𝕄) = bigSep Finset.univ fun k : Fin 4 => rPts c k f := by
  refine Eq.trans ?_ (pointsTo_biUnion (ℓ := (c : Thread nD τ).loc cc0_scratch2) (q := fullShare) (f := f) Finset.univ (fun k : Fin 4 => (rect k).set) rect_disjoint) |>.trans ?_
  · rw [rect_cover]
  · refine bigSep_congr fun k _ => ?_
    unfold rPts; rw [set_r]

omit [FloatOps F] in
/-- The result, whole, is the own rows and the four chunks of the partner's rows. -/
theorem o_cut (f : FVec F S512x256 .f32) : (((c : Thread nD τ).loc cc0_stg0_0) ↦{fullShare} f : sProp 𝕄)
    ⊣⊢ iprop(ownPts c f ∗ bigSep Finset.univ fun k : Fin 4 => inPts c k f) := by
  have hi (k : Fin 4) : (inPts c k f : sProp 𝕄) = (((c : Thread nD τ).loc cc0_stg0_0) ↦[(rectIn c k).set]{fullShare} f) := by
    unfold inPts; rw [set_in]
  have ho : (ownPts c f : sProp 𝕄) = (((c : Thread nD τ).loc cc0_stg0_0) ↦[(rectOwn c).set]{fullShare} f) := by
    unfold ownPts; rw [set_own]
  have hb := pointsTo_biUnion (ℓ := (c : Thread nD τ).loc cc0_stg0_0) (q := fullShare) (f := f) (Val := Elt F) (Ix := Unit) (Name := ℕ) (U := UU) (Lvl := ℕ)
    Finset.univ (fun k : Fin 4 => (rectIn c k).set) (in_disjoint c)
  have hu := pointsTo_union (ℓ := (c : Thread nD τ).loc cc0_stg0_0) (q := fullShare) (Val := Elt F) (f := f) (Ix := Unit) (Name := ℕ) (U := UU) (Lvl := ℕ) (own_in_disjoint c)
  rw [own_in_cover, hb] at hu
  rw [ho, bigSep_congr (s := Finset.univ) fun k _ => hi k]
  exact hu

/-- Chunks at one contents are chunks at some contents each. -/
theorem some_each {α : Type} (Φ : Fin 4 → α → sProp 𝕄) (f : α) :
    (bigSep Finset.univ fun k : Fin 4 => Φ k f) ⊢ bigSep Finset.univ fun k : Fin 4 => iprop(∃ f, Φ k f) :=
  bigSep_mono fun k _ => exists_intro (Φ := fun f => Φ k f) f

end Cert.KernelIdeal.Swap

end
-- ==== Proof.IdealBody.lean ====
/-
# The kernel's body

The steps put together, phase by phase, from what the launch deals a device to what it hands back: its argument
unchanged, the result at both blocks, all fourteen cells at zero.
-/
module

public import proofs.«01_k».proof.Proof.IdealPieces

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The fourteen cells, by kind -/

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- `Φ` at every cell of a device: the barrier, the departures, the arrivals, the own block's, the stagings. -/
def cells (Φ : Fin 14 → sProp 𝕄) : sProp 𝕄 :=
  iprop(Φ 0 ∗ (bigSep Finset.univ fun k : Fin 4 => Φ (sendI k)) ∗ (bigSep Finset.univ fun k : Fin 4 => Φ (recvI k))
    ∗ Φ ownI ∗ bigSep Finset.univ fun k : Fin 4 => Φ (stageI k))

omit [FloatOps F] in
theorem cells_eq (Φ : Fin 14 → sProp 𝕄) : bigSep Finset.univ Φ ⊣⊢ cells Φ := by
  have h : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
    bigSep_univ_eq_bigSepL [0, 1, 2, 3, 4, 5, 6, 7, 8, 9, 10, 11, 12, 13] (by decide) (by decide) Φ
  have h' : cells Φ = iprop(Φ 0 ∗ (Φ 1 ∗ Φ 2 ∗ Φ 3 ∗ Φ 4) ∗ (Φ 5 ∗ Φ 6 ∗ Φ 7 ∗ Φ 8) ∗ Φ 9 ∗ Φ 10 ∗ Φ 11 ∗ Φ 12 ∗ Φ 13) := by
    unfold cells; rw [bigSep_four, bigSep_four, bigSep_four]; rfl
  rw [h, h']
  constructor
  · iintro ⟨H0, H1, H2, H3, H4, H5, H6, H7, H8, H⟩
    isplitl [H0]; · iexact H0
    isplitl [H1 H2 H3 H4]
    · isplitl [H1]; · iexact H1
      isplitl [H2]; · iexact H2
      isplitl [H3] <;> iassumption
    isplitl [H5 H6 H7 H8]
    · isplitl [H5]; · iexact H5
      isplitl [H6]; · iexact H6
      isplitl [H7] <;> iassumption
    iexact H
  · iintro ⟨H0, ⟨H1, H2, H3, H4⟩, ⟨H5, H6, H7, H8⟩, H⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H

/-- Whose cell `i` device `c` pays: its partner's for the barrier and the arrivals, its own otherwise. -/
def payee (c : Dev nD) (i : Fin 14) : Dev nD := if i = 0 ∨ (5 ≤ i.val ∧ i.val ≤ 8) then peer c else c

theorem payee_send (c : Dev nD) (k : Fin 4) : payee c (sendI k) = c := by fin_cases k <;> rfl
theorem payee_recv (c : Dev nD) (k : Fin 4) : payee c (recvI k) = peer c := by fin_cases k <;> rfl
theorem payee_own (c : Dev nD) : payee c ownI = c := rfl
theorem payee_bar (c : Dev nD) : payee c 0 = peer c := rfl
theorem payee_stage (c : Dev nD) (k : Fin 4) : payee c (stageI k) = c := by fin_cases k <;> rfl

/-! ## The phases -/

variable (K : Dev nD × Fin 14 → ℕ) (c : Dev nD)

/-- A step taken at each of the four chunks in turn, `S` carried along. -/
theorem four (step : Fin 4 → P F → P F) (A B : Fin 4 → sProp 𝕄) (S : ℕ → sProp 𝕄)
    (h : ∀ (k : Fin 4) (p : P F) (Q : PUnit.{1} → sProp 𝕄),
      iprop(ctx m K ∗ A k ∗ S k.val) ⊢ iprop(((B k ∗ S (k.val + 1)) -∗ runs c p Q) -∗ runs c (step k p) Q))
    (p : P F) (Q : PUnit.{1} → sProp 𝕄) :
    iprop(ctx m K ∗ (bigSep Finset.univ A) ∗ S 0)
      ⊢ iprop((((bigSep Finset.univ B) ∗ S 4) -∗ runs c p Q) -∗ runs c (step 0 (step 1 (step 2 (step 3 p)))) Q) := by
  have h0 : ∀ (p : P F) (Q : PUnit.{1} → sProp 𝕄), iprop(ctx m K ∗ A 0 ∗ S 0) ⊢ iprop(((B 0 ∗ S 1) -∗ runs c p Q) -∗ runs c (step 0 p) Q) := h 0
  have h1 : ∀ (p : P F) (Q : PUnit.{1} → sProp 𝕄), iprop(ctx m K ∗ A 1 ∗ S 1) ⊢ iprop(((B 1 ∗ S 2) -∗ runs c p Q) -∗ runs c (step 1 p) Q) := h 1
  have h2 : ∀ (p : P F) (Q : PUnit.{1} → sProp 𝕄), iprop(ctx m K ∗ A 2 ∗ S 2) ⊢ iprop(((B 2 ∗ S 3) -∗ runs c p Q) -∗ runs c (step 2 p) Q) := h 2
  have h3 : ∀ (p : P F) (Q : PUnit.{1} → sProp 𝕄), iprop(ctx m K ∗ A 3 ∗ S 3) ⊢ iprop(((B 3 ∗ S 4) -∗ runs c p Q) -∗ runs c (step 3 p) Q) := h 3
  rw [bigSep_four, bigSep_four]
  iintro ⟨#Hc, ⟨A0, A1, A2, A3⟩, HS⟩ Hk
  iapply (h0 _ Q) $$ [A0 HS]
  · isplitr; · iexact Hc
    isplitl [A0] <;> iassumption
  iintro ⟨B0, HS⟩
  iapply (h1 _ Q) $$ [A1 HS]
  · isplitr; · iexact Hc
    isplitl [A1] <;> iassumption
  iintro ⟨B1, HS⟩
  iapply (h2 _ Q) $$ [A2 HS]
  · isplitr; · iexact Hc
    isplitl [A2] <;> iassumption
  iintro ⟨B2, HS⟩
  iapply (h3 _ Q) $$ [A3 HS]
  · isplitr; · iexact Hc
    isplitl [A3] <;> iassumption
  iintro ⟨B3, HS⟩
  iapply Hk
  isplitr [HS]
  · isplitl [B0]; · iexact B0
    isplitl [B1]; · iexact B1
    isplitl [B2] <;> iassumption
  iexact HS

/-- All four chunks start on their way into the staging buffer. -/
theorem phase_stage (p : P F) (Q : PUnit.{1} → sProp 𝕄) :
    iprop(ctx m K ∗ ((bigSep Finset.univ fun k : Fin 4 => aPts m c k) ∗ (bigSep Finset.univ fun k : Fin 4 => iprop(∃ f, xPts c k f))
        ∗ bigSep Finset.univ fun k : Fin 4 => tok c (stageI k)) ∗ emp)
      ⊢ iprop((((bigSep Finset.univ fun k : Fin 4 => crd c (stageI k)) ∗ emp) -∗ runs c p Q)
          -∗ runs c (goStage 0 (goStage 1 (goStage 2 (goStage 3 p)))) Q) := by
  have h := four m K c goStage (fun k => iprop(aPts m c k ∗ (∃ f, xPts c k f) ∗ tok c (stageI k))) (fun k => crd c (stageI k)) (fun _ => iprop(emp))
    (fun k p Q => by
      iintro ⟨#Hc, ⟨Ha, ⟨%f, Hx⟩, Ht⟩, -⟩ Hk
      iapply (wp_goStage m K c p k f) $$ [Ha Hx Ht]
      · isplitr; · iexact Hc
        isplitl [Ha]; · iexact Ha
        isplitl [Hx] <;> iassumption
      iintro Hcr
      iapply Hk
      isplitl; · iexact Hcr
      iempintro) p Q
  simp only [bigSep_sep'] at h
  exact h

/-- Each chunk in turn is rounded and sent. -/
theorem phase_send (p : P F) (Q : PUnit.{1} → sProp 𝕄) :
    iprop(ctx m K ∗ ((bigSep Finset.univ fun k : Fin 4 => crd c (stageI k)) ∗ (bigSep Finset.univ fun k : Fin 4 => pos c (stageI k))
        ∗ (bigSep Finset.univ fun k : Fin 4 => iprop(∃ f, sPts c k f)) ∗ (bigSep Finset.univ fun k : Fin 4 => iprop(∃ f, rPts (peer c) k f))
        ∗ (bigSep Finset.univ fun k : Fin 4 => tok c (sendI k)) ∗ (bigSep Finset.univ fun k : Fin 4 => tok (peer c) (recvI k))) ∗ debt c (owR c 0))
      ⊢ iprop(((((bigSep Finset.univ fun k : Fin 4 => done c (stageI k)) ∗ (bigSep Finset.univ fun k : Fin 4 => xPts c k (X m c))
            ∗ (bigSep Finset.univ fun k : Fin 4 => aPts m c k) ∗ (bigSep Finset.univ fun k : Fin 4 => crd c (sendI k))) ∗ debt c (owR c 4)) -∗ runs c p Q)
          -∗ runs c (fill 0 (send (peer c) 0 (fill 1 (send (peer c) 1 (fill 2 (send (peer c) 2 (fill 3 (send (peer c) 3 p)))))))) Q) := by
  have h := four m K c (fun k p => fill k (send (peer c) k p))
    (fun k => iprop(crd c (stageI k) ∗ pos c (stageI k) ∗ (∃ f, sPts c k f) ∗ (∃ f, rPts (peer c) k f) ∗ tok c (sendI k) ∗ tok (peer c) (recvI k)))
    (fun k => iprop(done c (stageI k) ∗ xPts c k (X m c) ∗ aPts m c k ∗ crd c (sendI k))) (fun n => debt c (owR c n))
    (fun k p Q => by
      iintro ⟨#Hc, ⟨Hcr, Hat, Hs, ⟨%f, Hr⟩, Ht, Htp⟩, HO⟩ Hk
      iapply (wp_fill m K c _ k k.val) $$ [Hcr Hat Hs HO]
      · isplitr; · iexact Hc
        isplitl [Hcr]; · iexact Hcr
        isplitl [HO]; · iexact HO
        isplitl [Hat] <;> iassumption
      iintro ⟨HO, Hz, Hx, Ha, Hs⟩
      iapply (wp_send_chunk m K c p k f) $$ [Hs Hr HO Ht Htp]
      · isplitr; · iexact Hc
        isplitl [Hs]; · iexact Hs
        isplitl [Hr]; · iexact Hr
        isplitl [HO]; · iexact HO
        isplitl [Ht] <;> iassumption
      iintro ⟨Hcr, HO⟩
      iapply Hk
      isplitr [HO]
      · isplitl [Hz]; · iexact Hz
        isplitl [Hx]; · iexact Hx
        isplitl [Ha] <;> iassumption
      iexact HO) p Q
  simp only [bigSep_sep'] at h
  exact h

/-- Each of the partner's chunks in turn is written to the result. -/
theorem phase_take (p : P F) (Q : PUnit.{1} → sProp 𝕄) :
    iprop(ctx m K ∗ ((bigSep Finset.univ fun k : Fin 4 => crd c (recvI k)) ∗ (bigSep Finset.univ fun k : Fin 4 => pos c (recvI k))
        ∗ (bigSep Finset.univ fun k : Fin 4 => iprop(∃ f, inPts c k f))) ∗ debt c 0)
      ⊢ iprop(((((bigSep Finset.univ fun k : Fin 4 => done c (recvI k)) ∗ (bigSep Finset.univ fun k : Fin 4 => rPts c k (T m (peer c)))
            ∗ (bigSep Finset.univ fun k : Fin 4 => inPts c k (O m c))) ∗ debt c 0) -∗ runs c p Q)
          -∗ runs c (take c 0 (take c 1 (take c 2 (take c 3 p)))) Q) := by
  have h := four m K c (take c) (fun k => iprop(crd c (recvI k) ∗ pos c (recvI k) ∗ ∃ f, inPts c k f))
    (fun k => iprop(done c (recvI k) ∗ rPts c k (T m (peer c)) ∗ inPts c k (O m c))) (fun _ => debt c 0)
    (fun k p Q => by
      iintro ⟨#Hc, ⟨Hcr, Hat, Hs⟩, HO⟩ Hk
      iapply (wp_take m K c p k) $$ [Hcr Hat Hs HO]
      · isplitr; · iexact Hc
        isplitl [Hcr]; · iexact Hcr
        isplitl [HO]; · iexact HO
        isplitl [Hat] <;> iassumption
      iintro ⟨HO, H⟩
      iapply Hk
      isplitl [H] <;> iassumption) p Q
  simp only [bigSep_sep'] at h
  exact h

/-- The four departures are waited out. -/
theorem phase_endSend (p : P F) (Q : PUnit.{1} → sProp 𝕄) :
    iprop(ctx m K ∗ ((bigSep Finset.univ fun k : Fin 4 => crd c (sendI k)) ∗ (bigSep Finset.univ fun k : Fin 4 => pos c (sendI k))) ∗ debt c 0)
      ⊢ iprop(((((bigSep Finset.univ fun k : Fin 4 => done c (sendI k)) ∗ (bigSep Finset.univ fun k : Fin 4 => sPts c k (T m c))) ∗ debt c 0) -∗ runs c p Q)
          -∗ runs c (endSend 0 (endSend 1 (endSend 2 (endSend 3 p)))) Q) := by
  have h := four m K c endSend (fun k => iprop(crd c (sendI k) ∗ pos c (sendI k)))
    (fun k => iprop(done c (sendI k) ∗ sPts c k (T m c))) (fun _ => debt c 0)
    (fun k p Q => by
      iintro ⟨#Hc, ⟨Hcr, Hat⟩, HO⟩ Hk
      iapply (wp_endSend m K c p k) $$ [Hcr Hat HO]
      · isplitr; · iexact Hc
        isplitl [Hcr]; · iexact Hcr
        isplitl [HO] <;> iassumption
      iintro ⟨HO, H⟩
      iapply Hk
      isplitl [H] <;> iassumption) p Q
  simp only [bigSep_sep'] at h
  exact h

/-! ## The whole body -/

/-- What device `c` is dealt: its cells' positions, the rights to pay, and the units it will receive from its partner. -/
def dealt : sProp 𝕄 :=
  iprop((bigSep Finset.univ fun i : Fin 14 => pos c i) ∗ (bigSep Finset.univ fun i : Fin 14 => tok (payee c i) i)
    ∗ crd c 0 ∗ bigSep Finset.univ fun k : Fin 4 => crd c (recvI k))

/-- The buffers the kernel works in, at whatever they hold. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The argument, at its contents. -/
def argPts : sProp 𝕄 := (((c : Thread nD τ).loc main_arg0) ↦{fullShare} X m c)

set_option maxHeartbeats 1000000 in
/-- From what it is dealt a device runs the kernel's steps and ends with the result at both blocks, its argument
    unchanged, its scratch buffers back and its fourteen cells at zero. -/
theorem wp_steps (fo : FVec F S512x256 .f32) (Q : PUnit.{1} → sProp 𝕄) :
    iprop(ctx m K ∗ dealt c ∗ argPts m c ∗ scratch c ∗ (((c : Thread nD τ).loc cc0_stg0_0) ↦{fullShare} fo) ∗ debt c (O₀ c))
      ⊢ iprop(((argPts m c ∗ scratch c ∗ (((c : Thread nD τ).loc cc0_stg0_0) ↦{fullShare} O m c) ∗ (bigSep Finset.univ fun i : Fin 14 => done c i) ∗ debt c 0)
            -∗ Q ⟨⟩)
          -∗ runs c (steps c (peer c) (peer c) (peer c) (peer c) (peer c)) Q) := by
  unfold dealt argPts scratch
  iintro ⟨#Hc, ⟨Hpos, Htok, Hcb, Hcr⟩, Ha, ⟨⟨%fx, Hx⟩, ⟨%fs, Hs⟩, ⟨%fr, Hr⟩⟩, Ho, HO⟩ Hk
  -- everything cut into chunks and kinds
  ihave Hpos := (cells_eq fun i => pos c i).1 $$ Hpos
  ihave Htok := (cells_eq fun i => tok (payee c i) i).1 $$ Htok
  unfold cells
  simp only [payee_bar, payee_send, payee_recv, payee_own, payee_stage]
  icases Hpos with ⟨Pb, Ps, Pr, Po, Pg⟩
  icases Htok with ⟨Tb, Ts, Tr, To, Tg⟩
  ihave Ha := (a_cut m c).1 $$ Ha
  icases Ha with ⟨Haw, Ha⟩
  ihave Ho := (o_cut c fo).1 $$ Ho
  icases Ho with ⟨How, Hi⟩
  ihave Hi := (some_each (fun k f => inPts c k f) fo) $$ Hi
  ihave Hx := (Entails.of_eq (x_cut c fx)) $$ Hx
  ihave Hx := (some_each (fun k f => xPts c k f) fx) $$ Hx
  ihave Hs := (Entails.of_eq (s_cut c fs)) $$ Hs
  ihave Hs := (some_each (fun k f => sPts c k f) fs) $$ Hs
  ihave Hr := (Entails.of_eq (r_cut c fr)) $$ Hr
  ihave Hr := (some_each (fun k f => rPts c k f) fr) $$ Hr
  unfold steps
  iapply (wp_goOwn m K c _ fo) $$ [Haw How To]
  · isplitr; · iexact Hc
    isplitl [Haw]; · iexact Haw
    isplitl [How] <;> iassumption
  iintro Cown
  iapply (phase_stage m K c _ Q) $$ [Ha Hx Tg]
  · isplitr; · iexact Hc
    isplitl
    · isplitl [Ha]; · iexact Ha
      isplitl [Hx] <;> iassumption
    iempintro
  iintro ⟨Cg, -⟩
  iapply (wp_meet m K c _) $$ [HO Tb Hr Hcb Pb]
  · isplitr; · iexact Hc
    isplitl [HO]; · iexact HO
    isplitl [Tb]; · iexact Tb
    isplitl [Hr]; · iexact Hr
    isplitl [Hcb] <;> iassumption
  iintro ⟨HO, Zb, Hr⟩
  iapply (phase_send m K c _ Q) $$ [Cg Pg Hs Hr Ts Tr HO]
  · isplitr; · iexact Hc
    isplitr [HO]
    · isplitl [Cg]; · iexact Cg
      isplitl [Pg]; · iexact Pg
      isplitl [Hs]; · iexact Hs
      isplitl [Hr]; · iexact Hr
      isplitl [Ts] <;> iassumption
    iexact HO
  rw [owR_four]
  iintro ⟨⟨Zg, Hx, Ha, Cs⟩, HO⟩
  iapply (phase_take m K c _ Q) $$ [Hcr Pr Hi HO]
  · isplitr; · iexact Hc
    isplitr [HO]
    · isplitl [Hcr]; · iexact Hcr
      isplitl [Pr] <;> iassumption
    iexact HO
  iintro ⟨⟨Zr, Hr, Hi⟩, HO⟩
  iapply (wp_endOwn m K c _) $$ [Cown HO Po]
  · isplitr; · iexact Hc
    isplitl [Cown]; · iexact Cown
    isplitl [HO] <;> iassumption
  iintro ⟨HO, Zo, How, Haw⟩
  iapply (phase_endSend m K c _ Q) $$ [Cs Ps HO]
  · isplitr; · iexact Hc
    isplitr [HO]
    · isplitl [Cs] <;> iassumption
    iexact HO
  iintro ⟨⟨Zs, Hs⟩, HO⟩
  unfold runs
  rw [wp_ret]; imodintro
  iapply Hk
  isplitl [Haw Ha]
  · iapply (a_cut m c).2
    isplitl [Haw] <;> iassumption
  isplitl [Hx Hs Hr]
  · isplitl [Hx]
    · iexists (X m c); iapply (Entails.of_eq (x_cut c (X m c)).symm); iexact Hx
    isplitl [Hs]
    · iexists (T m c); iapply (Entails.of_eq (s_cut c (T m c)).symm); iexact Hs
    iexists (T m (peer c)); iapply (Entails.of_eq (r_cut c (T m (peer c))).symm); iexact Hr
  isplitl [How Hi]
  · iapply (o_cut c (O m c)).2
    isplitl [How] <;> iassumption
  isplitr [HO]
  · iapply (cells_eq fun i => done c i).2
    unfold cells
    isplitl [Zb]; · iexact Zb
    isplitl [Zs]; · iexact Zs
    isplitl [Zr]; · iexact Zr
    isplitl [Zo] <;> iassumption
  iexact HO

/-! ## The pipeline's proof data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- What the launch deals a device: the cells' records, its own deal, the levels and its argument. -/
def start : sProp 𝕄 := iprop((∃ K, records m K) ∗ levAts L lv ∗ dealt c ∗ argPts m c)
def Φ₀ : sProp 𝕄 := iprop(start m c ∗ scratch c)
def Φ₁ : sProp 𝕄 := iprop(argPts m c ∗ (bigSep Finset.univ fun i : Fin 14 => done c i) ∗ scratch c)

def dats (_ : Fin 1) (c : Dev nD) : Dat τ (Elt F) Unit ℕ UU ℕ cfg0 c where
  A w := m ((cfg0.win w).arr.view.loc (c : Thread nD τ))
  after w _ := match w with
    | ⟨0, _⟩ => O m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev stg (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre : sProp 𝕄 :=
  iprop(Φ₀ m c ∗ (dats m 0 c).owesAt () t₀.castSucc ∗ ∃ d, stg c cc0_stg0_0 ((dats m 0 c).before (0 : Fin 1) t₀ d))
def bodyPost : sProp 𝕄 :=
  iprop(Φ₁ m c ∗ (dats m 0 c).owesAt () t₀.succ ∗ stg c cc0_stg0_0 (O m c))

theorem sound_body :
    bodyPre m c ⊢ wp frame (wpE (defs₀ (F := F)) 𝒱₀ c none) Set.univ
      (cc0_body (F := F) aM (Memref.isWhole_whole _) oM (Memref.isWhole_whole _) xM (Memref.isWhole_whole _) sM (Memref.isWhole_whole _)
        rM (Memref.isWhole_whole _) cc0_scratch3 cc0_scratch4 cc0_scratch5 cc0_scratch6) (fun _ => bodyPost m c) := by
  rw [body_steps, wp_deviceId, dev1_eq, dev2_eq, dev3_eq, dev4_eq, dev5_eq]
  unfold bodyPre bodyPost Φ₀ Φ₁ start Dat.owesAt Pipeline.owesWithin
  rw [show (dats m 0 c).owed t₀.castSucc = O₀ c from rfl, show (dats m 0 c).owed t₀.succ = 0 from rfl]
  iintro ⟨⟨⟨⟨%K, #HR⟩, #Hl, Hd, Ha⟩, Hs⟩, ⟨%W, %hW, HO⟩, ⟨%d, %g, %hg, Hout⟩⟩
  iapply (wp_steps m K c g _) $$ [Hd Ha Hs HO Hout]
  · isplitr
    · unfold ctx; isplitl; · iexact HR
      iexact Hl
    isplitl [Hd]; · iexact Hd
    isplitl [Ha]; · iexact Ha
    isplitl [Hs]; · iexact Hs
    isplitl [Hout]; · iexact Hout
    unfold debt; iexists W; iexact HO
  iintro ⟨Ha, Hs, Hout, Hz, HO⟩
  unfold debt
  icases HO with ⟨%W', HO⟩
  isplitl [Ha Hs Hz]
  · isplitl [Ha]; · iexact Ha
    isplitl [Hz] <;> iassumption
  isplitl [HO]
  · iexists W'; isplitr; · ipureintro; exact fun _ _ => Or.inl trivial
    iexact HO
  iexists _; isplitr; · (ipureintro; rfl)
  iexact Hout

set_option maxRecDepth 4000 in
theorem body_obligation : BodyObligation (dats (F := F) m 0 c) (defs₀ (F := F)) 𝒱₀ () Set.univ := fun t => by
  rw [fin_N t]
  rw [bigSep_W0, bigSep_W0]
  simp only [owns_whole_eq]
  exact sound_body m c

end Cert.KernelIdeal.Swap

end
-- ==== Proof.IdealLaunch.lean ====
/-
# The launch

The ghost state of all the cells made and dealt out: every device's semaphores become its fourteen cells, and the right
to pay a cell goes to the device that pays it. The launch theorem then gives the run of the whole mesh.
-/
module

public import proofs.«01_k».proof.Proof.IdealBody
public import Idealize.ShloMosaic.Lib.Pipeline.CollectiveSegs
public import Idealize.ShloMosaic.Lib.Quiescent

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at the start: the memory `m`, every semaphore at zero. -/
abbrev s₀ : MemSt nD τ sig (Elt F) := ⟨m, fun _ => 0, ρ⟩

/-! ## The cells minted -/

theorem kcell_injective : Function.Injective (kcell : Dev nD × Fin 14 → GSem nD τ sig) := by
  rintro ⟨c, i⟩ ⟨c', i'⟩ h
  have h1 : c = c' := congrArg (fun g : GSem nD τ sig => g.1.1) h
  have h2 : ksem i = ksem i' := congrArg Prod.snd h
  have h3 := congrArg ixOf h2
  rw [ixOf_ksem, ixOf_ksem] at h3
  rw [h1, h3]

def ringCells : Finset (GSem nD τ sig) := Finset.univ.map ⟨kcell, kcell_injective⟩
/-- The one payment of each cell. -/
abbrev tokOf (ck : Dev nD × Fin 14) : GSem nD τ sig × ℕ × Unit := (kcell ck, 0, ())
theorem tokOf_injective : Function.Injective tokOf := fun _ _ h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- What the minting gives device `c`: its cells' states, its positions in them, and the right to pay each. -/
def G (c : Dev nD) : sProp 𝕄 :=
  iprop((bigSep Finset.univ fun i : Fin 14 => roundState ER (sched m) (kcell (c, i)) 0)
    ∗ ((bigSep Finset.univ fun i : Fin 14 => pos c i) ∗ bigSep Finset.univ fun i : Fin 14 => reached ER (kcell (c, i)) 0)
    ∗ bigSep Finset.univ fun i : Fin 14 => tok c i)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Fin 14 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun i : Fin 14 => tok c i := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores become the cells -/

/-- The kernel's own semaphores: cells 1 to 13. -/
abbrev osem (i : Fin 13) : SemLoc sig := ksem i.succ

theorem ownSemFacts : Pipeline.OwnSemFacts cfg0.spec osem := by decide

omit [FloatOps F] in
/-- A device's own semaphores and the barrier's, all at zero, are its fourteen cells at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun i : Fin 14 => done c i : sProp 𝕄) := by
  have hb : (unscopedSems0 c : sProp 𝕄) = done c 0 := by
    unfold unscopedSems0; rw [bigSep_eq_bigSepL_of_eq [SemLoc.reg barS] (by decide) (by decide)]; rfl
  rw [hb, Pipeline.ownSems0_eq_of_list c osem [0, 1, 2, 3, 4, 5, 6, 7, 8, 9, 10, 11, 12] (by decide) (by decide),
    bigSep_univ_eq_bigSepL [0, 1, 2, 3, 4, 5, 6, 7, 8, 9, 10, 11, 12, 13] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ ((bigSep Finset.univ fun i : Fin 14 => pos c i) ∗ bigSep Finset.univ fun i : Fin 14 => reached ER (kcell (c, i)) 0)
          ∗ bigSep Finset.univ fun i : Fin 14 => tok c i) := by
  unfold G
  iintro ⟨Hos, Hus, Hst, H⟩
  ihave Hv := (Entails.of_eq (sems0_eq (F := F) c)) $$ [Hos Hus]
  · isplitl [Hus] <;> iassumption
  imod (show iprop((bigSep Finset.univ fun i : Fin 14 => done c i) ∗ bigSep Finset.univ fun i : Fin 14 => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv] <;> iassumption

/-! ## The rights dealt to the payers -/

theorem payee_payee (c : Dev nD) (i : Fin 14) : payee (payee c i) i = c := by
  unfold payee; split
  · exact peer_peer c
  · rfl
/-- Who pays which cell, as a permutation of all cells. -/
def deal : Dev nD × Fin 14 ≃ Dev nD × Fin 14 :=
  ⟨fun x => (payee x.1 x.2, x.2), fun x => (payee x.1 x.2, x.2), fun x => Prod.ext (payee_payee x.1 x.2) rfl, fun x => Prod.ext (payee_payee x.1 x.2) rfl⟩

omit [FloatOps F] in
/-- Dealing every right to the device that pays: the barrier's and the arrivals' cross over, the rest stay. -/
theorem toks_around :
    (bigSep Finset.univ fun c : Dev nD => bigSep Finset.univ fun i : Fin 14 => (tok c i : sProp 𝕄))
      = bigSep Finset.univ fun c : Dev nD => bigSep Finset.univ fun i : Fin 14 => tok (payee c i) i := by
  rw [← bigSep_univ_prod fun x : Dev nD × Fin 14 => (tok x.1 x.2 : sProp 𝕄),
    ← bigSep_univ_prod fun x : Dev nD × Fin 14 => (tok (payee x.1 x.2) x.2 : sProp 𝕄)]
  exact bigSep_univ_equiv deal fun x : Dev nD × Fin 14 => (tok x.1 x.2 : sProp 𝕄)

/-- What the launch's common step leaves device `c`: all records, its positions, the rights it pays with. -/
def G' (c : Dev nD) : sProp 𝕄 :=
  iprop(∃ K, records m K ∗ (bigSep Finset.univ fun i : Fin 14 => pos c i) ∗ bigSep Finset.univ fun i : Fin 14 => tok (payee c i) i)

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (sched m) κ (kcell (c, i))))
          ∗ ((bigSep Finset.univ fun i : Fin 14 => pos c i) ∗ bigSep Finset.univ fun i : Fin 14 => reached ER (kcell (c, i)) 0)
          ∗ bigSep Finset.univ fun i : Fin 14 => tok c i) : sProp 𝕄)
      ⊢ bigSep Finset.univ (G' m) := by
  rw [bigSep_sep', bigSep_sep', bigSep_sep', ← bigSep_univ_prod (fun ck : Dev nD × Fin 14 => iprop(∃ κ : ℕ, cellInv ER (sched m) κ (kcell ck))),
    ← bigSep_univ_prod (fun ck : Dev nD × Fin 14 => (reached ER (kcell ck) 0 : sProp 𝕄)), toks_around]
  iintro ⟨HI, ⟨Hat, #HR⟩, Htok⟩
  ihave HK := (BI.bigSep_exists_pi Finset.univ (fun (ck : Dev nD × Fin 14) (κ : ℕ) => (cellInv ER (sched m) κ (kcell ck) : sProp 𝕄))) $$ HI
  icases HK with ⟨%K, #HI⟩
  iapply (with_persistent (R := records m K)
    (Φ := fun c : Dev nD => iprop((bigSep Finset.univ fun i : Fin 14 => pos c i) ∗ bigSep Finset.univ fun i : Fin 14 => tok (payee c i) i)) fun c _ => by
      unfold G'
      iintro ⟨HR, H⟩
      iexists K
      isplitl [HR] <;> iassumption)
  rw [bigSep_sep']
  isplitr
  · unfold records; isplitl; · iexact HI
    iexact HR
  isplitl [Hat] <;> iassumption

/-- The common step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device will receive from its partner -/

theorem recv_inj {j k : Fin 4} (h : recvI j = recvI k) : j = k := Fin.ext (by have := congrArg Fin.val h; simp only [recvI] at this; omega)
theorem recv_ne_zero (k : Fin 4) : recvI k ≠ 0 := by revert k; decide

/-- Device `d` owes cell `i` of device `c` its amount when `d` is `c`'s partner and the cell is the barrier's or an
    arrival's. -/
theorem owed_eq (c d : Dev nD) (i : Fin 14) (hi : i = 0 ∨ ∃ k, i = recvI k) :
    O₀ d (kcell (c, i)) () = if d = peer c then amt i else 0 := by
  have hc : ∀ j : Fin 14, (kcell (c, i) = kcell (peer d, j)) = (d = peer c ∧ i = j) := fun j => propext
    ⟨fun h => by
        have h' := kcell_injective h
        have h1 : c = peer d := congrArg Prod.fst h'
        exact ⟨by rw [h1, peer_peer], congrArg Prod.snd h'⟩,
      fun ⟨h1, h2⟩ => by rw [h1, peer_peer, h2]⟩
  unfold O₀ owR
  rw [Pi.add_apply, Finsupp.add_apply, Finset.sum_apply, Finsupp.finset_sum_apply, tallyAt_apply]
  simp only [tallyAt_apply, hc, and_true]
  rcases hi with rfl | ⟨k, rfl⟩
  · rw [Finset.sum_eq_zero fun k _ => if_neg fun h => recv_ne_zero k h.2.symm, Nat.zero_add]
    by_cases h : d = peer c
    · rw [if_pos ⟨h, rfl⟩, if_pos h]; rfl
    · rw [if_neg fun h' => h h'.1, if_neg h]
  · rw [if_neg (fun h => recv_ne_zero k h.2), Nat.add_zero, amt_recv]
    by_cases h : d = peer c
    · rw [if_pos h, Finset.sum_eq_single k (fun j _ hj => if_neg fun h' => hj (recv_inj h'.2).symm) (fun hk => absurd (Finset.mem_filter.mpr ⟨Finset.mem_univ k, Nat.zero_le _⟩) hk),
        if_pos ⟨h, rfl⟩]
    · rw [if_neg h]; exact Finset.sum_eq_zero fun j _ => if_neg fun h' => h h'.1

theorem launch_cell (c : Dev nD) (i : Fin 14) (hi : i = 0 ∨ ∃ k, i = recvI k) :
    tallyOn (kcell (c, i)) (launchCredit (Pipeline.owing O₀) 0 (kcell (c, i))) = (tallyAt (kcell (c, i)) () (amt i) : CellTallies nD τ sig Unit) := by
  unfold tallyAt; refine congrArg _ (Finsupp.ext fun u => ?_); cases u
  rw [Pipeline.launchCredit_owing, Finsupp.single_eq_same, Finset.sum_congr rfl fun d _ => owed_eq c d i hi,
    Finset.sum_ite_eq' Finset.univ (peer c) fun _ => amt i, if_pos (Finset.mem_univ _)]

/-- The arrivals' semaphores. -/
def recvEmb : Fin 4 ↪ SemLoc sig := ⟨fun k => ksem (recvI k), fun j k h => recv_inj (by have := congrArg ixOf h; rwa [ixOf_ksem, ixOf_ksem] at this)⟩

omit [FloatOps F] in
theorem creds (c : Dev nD) :
    (Pipeline.launchCred O₀ c : sProp 𝕄) ⊢ iprop(crd c 0 ∗ bigSep Finset.univ fun k : Fin 4 => crd c (recvI k)) := by
  have hr : (bigSep Finset.univ fun k : Fin 4 => (crd c (recvI k) : sProp 𝕄))
      = bigSep (Finset.univ.map recvEmb) fun sm : SemLoc sig => cred (tallyOn ((c.tc : Thread nD τ), sm) (launchCredit (Pipeline.owing O₀) 0 ((c.tc : Thread nD τ), sm))) := by
    rw [bigSep_map]
    exact bigSep_congr fun k _ => congrArg cred (launch_cell c (recvI k) (.inr ⟨k, rfl⟩)).symm
  rw [hr]
  unfold Pipeline.launchCred
  rw [bigSep_univ_at _ (ksem 0)]
  refine BI.sep_mono ?_ ?_
  · exact Entails.of_eq (congrArg cred (launch_cell c 0 (.inl rfl)))
  · exact bigSep_subset (by decide)

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start dealt argPts G'
  iintro ⟨Ha, Hl, Hcr, -, ⟨%K, HR, Hpos, Htok⟩⟩
  ihave Hc := (creds (F := F) c) $$ Hcr
  imodintro
  isplitl
  · isplitl [HR]; · iexists K; iexact HR
    isplitl [Hl]; · iexact Hl
    isplitr [Ha]
    · isplitl [Hpos]; · iexact Hpos
      isplitl [Htok] <;> iassumption
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scopedRest0_eq]
  unfold Φ₁ scratch
  rw [← sems0_eq]
  iintro ⟨Ha, ⟨Hu, Ho⟩, Hs⟩
  isplitl [Hu Ha]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t => by
    have hlow : lev (.dma ((cfg0.win w).sem s)) < 1 := by revert w s; decide
    rcases t with ⟨_ | _, ht⟩
    · exact mayWait_O₀ c _ hlow
    · exact mayWait_of_lev c _ _ fun g u hg => absurd hg (Nat.lt_irrefl 0)

/-! ## The run -/

/-- The result's one block is the whole array, so the array ends at what the body left in its staging buffer. -/
theorem result_eq (c : Dev nD) : (dats m 0 c).arrAt (0 : Fin 1) cfg0.N = O m c := by
  refine (dats m 0 c).arrAt_eq_of_cover (0 : Fin 1) (O m c) (fun t _ => ?_) fun i => ⟨t₀, flush0_0 _, ?_⟩
  · obtain rfl := fin_N t
    have e : ((cfg0.win (0 : Fin 1)).blk t₀).view.read (Elt F) (O m c) = O m c :=
      Memref.read_access_unit_zero (Elt F) main_v1 (by funext a; fin_cases a <;> rfl) _ (O m c)
    rw [e]; rfl
  · rw [View.set_slice_whole, Rect.mem_set_unit]
    intro a; fin_cases a <;> exact ⟨Nat.zero_le _, (i _).isLt⟩

/-- What the run ends in: on every device the result at `O`, the argument unchanged, and every semaphore at zero. -/
def Post (r : PUnit × MemSt nD τ sig (Elt F)) : Prop :=
  (∀ c : Dev nD, r.2.mem ((c : Thread nD τ).loc main_v1) = O m c
    ∧ r.2.mem ((c : Thread nD τ).loc main_arg0) = m ((c : Thread nD τ).loc main_arg0))
  ∧ r.2.sem = fun _ => 0

set_option maxRecDepth 8000 in
/-- From any memory with every semaphore at zero, every fair run of the eight devices ends, in `Post`. -/
theorem run_main : θ_run defs (onTc (τ := τ) (main (F := F))) (s₀ m ρ) (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold argPts
      iintro ⟨⟨Hu, Ha⟩, -, HSI⟩
      icombine HSI Ha gives %ha
      imod (Pipeline.unscopedSems0_read (X := unscopedSems0 c) (c := c) fupd_intro s') $$ [Hu HSI] with ⟨%hu, HSI⟩
      · isplitl [Hu] <;> iassumption
      imodintro
      isplitr
      · ipureintro; exact ⟨Buf.eq_of_forall_mem_univ ha, hu⟩
      iexact HSI)
    (hQ := fun _ h hs => ⟨fun c => ⟨((h c).1 (0 : Fin 1)).trans (result_eq m c), (h c).2.2.1⟩, sem_eq_zero hs fun c => (h c).2.2.2⟩)

end Cert.KernelIdeal.Swap

end
-- ==== Proof.IdealValue.lean ====
/-
# The value

Over the extended reals rounding changes nothing, so a device's two blocks are the two halves of the whole array, each
at its place: the result on every device is the whole array.
-/
module

public import proofs.«01_k».proof.Proof.IdealLaunch
public import Idealize.ShloMosaic.Lib.Layout
public import Idealize.ShloMosaic.PureOps.Ideal

@[expose] public section

noncomputable section

namespace Cert.KernelIdeal.Swap

open Cert.KernelIdeal Cert.KernelIdeal.Gen

open Idealize.ShloMosaic
open Idealize.ShloMosaic.TcCoe

/-- Device `c`'s block of a whole array: row `c / 4` of the mesh holds the block of that number. -/
abbrev part (c : Dev nD) (w : FVec Ideal S512x256 .f32) : FVec Ideal S256x256 .f32 :=
  Layout.blockN ⟨2, ![256, 256]⟩ ⟨2, ![512, 256]⟩ (Layout.meshBlock [2, 2, 2] ![[0], []] c) w

/-- A place of the whole array in the rows of device `c`'s block is read at its place inside the block. -/
theorem part_low (c : Dev nD) (w : FVec Ideal S512x256 .f32) (i : S512x256.Idx) (h : (i 0).val / 256 = c.val / 4) : part c w (low i) = w i := by
  refine congrArg w (funext fun b => Fin.ext ?_)
  rw [Layout.TilesN.idx_val]
  have h0 : Layout.meshLin [2, 2, 2] c.val [0] = c.val / 4 := by clear h; revert c; decide
  have hi : (i 0).val = c.val / 4 * 256 + (i 0).val % 256 := by omega
  have hj : (i 1).val = 0 * 256 + (i 1).val % 256 := by have := (i 1).isLt; change (i 1).val < 256 at this; omega
  fin_cases b
  · exact (congrArg (fun n => n * 256 + (i 0).val % 256) h0).trans hi.symm
  · exact hj.symm

/-- When the devices hold the blocks of `w`, the result on every device is `w`. -/
theorem O_eq (m : (ℓ : Loc nD τ sig) → Buf (Elt Ideal) ℓ) (w : FVec Ideal S512x256 .f32)
    (h : ∀ c : Dev nD, X m c = part c w) (c : Dev nD) : O m c = w := by
  funext i
  unfold O
  split
  · next hc => rw [h]; exact part_low c w i hc
  · next hc =>
    show X m (peer c) (low i) = w i
    rw [h]; refine part_low (peer c) w i ?_
    have := peer_row c; have := row_lt c
    have hi : (i 0).val < 512 := (i 0).isLt
    omega

end Cert.KernelIdeal.Swap

end
-- ==== Proof.Reference.lean ====
/-
# The reference's run

The reference holds the whole array on one device and returns it: its program performs no operation.
-/
module

public import proofs.«01_k».proof.Proof.Gen.ReferenceIdeal
public import Idealize.ShloMosaic.Lib.StableHlo.Run

@[expose] public section

noncomputable section

namespace Cert.ReferenceIdeal.Whole

open Cert.ReferenceIdeal Cert.ReferenceIdeal.Gen
open Idealize.ShloMosaic Idealize.ShloMosaic.TcCoe Idealize.ShloMosaic.StableHlo Idealize.SL.Sem

variable {F : FTy → Type} [FloatOps F]

/-- The reference's run ends with its argument, which is its result, as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Cert.ReferenceIdeal.Whole

end
-- ==== Proof.lean ====
/-
# The certificate

The exchange kernel runs on the eight devices to its end, leaves its argument as it was and every semaphore at zero, over
machine floats and over the extended reals alike; over the extended reals its result on every device is the whole array.
-/
module

public import proofs.«01_k».proof.Defs
public import proofs.«01_k».proof.Proof.KernelLaunch
public import proofs.«01_k».proof.Proof.IdealValue
public import proofs.«01_k».proof.Proof.Reference

@[expose] public section

noncomputable section

namespace Cert.Proof

open Idealize.ShloMosaic Idealize.SL.Sem

/-- The kernel over machine floats runs to its end, its argument unchanged, every semaphore at zero. -/
theorem frame_kernel : quiescent_Kernel := fun m g _ =>
  (θ_run Cert.Kernel.defs _ _).mono (fun _ h => ⟨fun c => (h.1 c).2, h.2⟩) (Cert.Kernel.Swap.run_main (F := Bits) m g)

/-- So does the kernel over the extended reals; -/
theorem frame_ideal : quiescent_KernelIdeal := fun m g _ =>
  (θ_run Cert.KernelIdeal.defs _ _).mono (fun _ h => ⟨fun c => (h.1 c).2, h.2⟩) (Cert.KernelIdeal.Swap.run_main (F := Ideal) m g)

/-- and so does the reference, which has no semaphore. -/
theorem frame_reference : quiescent_ReferenceIdeal := fun m g _ =>
  (θ_run Cert.ReferenceIdeal.defs _ _).mono (fun r h => ⟨h, sem_eq_zero_of_no_sems (by decide) r.2⟩)
    (Cert.ReferenceIdeal.Whole.run_main (F := Ideal) m g)

/-- Over the extended reals, from devices that hold the blocks of the reference's array, the kernel's result on every
    device is that array, which the reference returns. -/
theorem value : algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.KernelIdeal.Swap.O_eq m _ hm c), (h.1 c).2⟩) (Cert.KernelIdeal.Swap.run_main (F := Ideal) m g),
    (θ_run Cert.ReferenceIdeal.defs _ _).mono (fun _ h => ⟨h 0, h 0⟩) (Cert.ReferenceIdeal.Whole.run_main (F := Ideal) m' g')⟩

/-- The whole certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
